-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S_ : Shape := ⟨0, ![]⟩
abbrev S16 : Shape := ⟨1, ![16]⟩
abbrev S4096x2048 : Shape := ⟨2, ![4096, 2048]⟩
abbrev S4096x512 : Shape := ⟨2, ![4096, 512]⟩
abbrev S1 : Shape := ⟨1, ![1]⟩
abbrev S4x1024x512 : Shape := ⟨3, ![4, 1024, 512]⟩
abbrev S4 : Shape := ⟨1, ![4]⟩
abbrev S1x1024x512 : Shape := ⟨3, ![1, 1024, 512]⟩
abbrev S1024x512 : Shape := ⟨2, ![1024, 512]⟩

abbrev nBuf : Space → Nat
  | .hbm => 79
  | .vmem => 4
  | .smem => 1
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S_, .i32⟩
  | .hbm, ⟨46, _⟩ => ⟨S_, .i1⟩
  | .hbm, ⟨47, _⟩ => ⟨S16, .i1⟩
  | .hbm, ⟨48, _⟩ => ⟨S16, .i1⟩
  | .hbm, ⟨49, _⟩ => ⟨S16, .i1⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S16, .i32⟩
  | .hbm, ⟨63, _⟩ => ⟨S16, .i32⟩
  | .hbm, ⟨64, _⟩ => ⟨S_, .i32⟩
  | .hbm, ⟨65, _⟩ => ⟨S16, .i32⟩
  | .hbm, ⟨66, _⟩ => ⟨S16, .i1⟩
  | .hbm, ⟨67, _⟩ => ⟨S_, .i32⟩
  | .hbm, ⟨68, _⟩ => ⟨S16, .i32⟩
  | .hbm, ⟨69, _⟩ => ⟨S16, .i1⟩
  | .hbm, ⟨70, _⟩ => ⟨S_, .i32⟩
  | .hbm, ⟨71, _⟩ => ⟨S_, .i1⟩
  | .hbm, ⟨72, _⟩ => ⟨S16, .i1⟩
  | .hbm, ⟨73, _⟩ => ⟨S16, .i1⟩
  | .hbm, ⟨74, _⟩ => ⟨S16, .i1⟩
  | .hbm, ⟨75, _⟩ => ⟨S16, .i32⟩
  | .hbm, ⟨76, _⟩ => ⟨S16, .i32⟩
  | .hbm, ⟨77, _⟩ => ⟨S16, .i32⟩
  | .hbm, ⟨78, _⟩ => ⟨S4096x2048, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S4x1024x512, .f32⟩
  | .local _ .smem, ⟨0, _⟩ => ⟨S16, .i32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v10 : Ref sig .tc := ⟨.hbm, 52, rfl⟩
abbrev main_c_4 : Ref sig .tc := ⟨.hbm, 53, rfl⟩
abbrev main_v11 : Ref sig .tc := ⟨.hbm, 54, rfl⟩
abbrev main_v12 : Ref sig .tc := ⟨.hbm, 55, rfl⟩
abbrev main_c_5 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v13 : Ref sig .tc := ⟨.hbm, 77, rfl⟩
abbrev main_v15 : Ref sig .tc := ⟨.hbm, 78, rfl⟩
abbrev main_v14 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2
abbrev barrier0 : Sem sig := 0

abbrev nD : Nat := 4
abbrev τ : Topo := Topo.v7x

variable {F : FTy → Type} [FloatOps F]

abbrev grid0 : Pipeline.Grid := ⟨1, ![16], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c0_i32_8 : BitVec 32 := 0#32
  let v26 : BitVec 1 := Scalar.cmpi .eq arg0 c0_i32_8
  let v27 : BitVec 32 := Scalar.extui v26
  let c0_i32_9 : BitVec 32 := 0#32
  let v28 : BitVec 1 := Scalar.cmpi .ne v27 c0_i32_9
  v28

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let v57 : BitVec 1 := Scalar.cmpi .ne v2 c0_i32_23
  let v58 : BitVec 32 := Scalar.extui v57
  let c0_i32_24 : BitVec 32 := 0#32
  let v59 : BitVec 1 := Scalar.cmpi .ne v58 c0_i32_24
  v59

def k0_dev1 : Nat :=
  let c0_i32_34 : BitVec 32 := 0#32
  let c0_i32_32 : BitVec 32 := 0#32
  let c1_i32_33 : BitVec 32 := 1#32
  let v69 : BitVec 32 := Scalar.muli c0_i32_32 c1_i32_33
  let v70 : BitVec 32 := Scalar.addi c0_i32_34 v69
  v70.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v60 : BitVec 1 := Scalar.cmpi .ne v2 c1_i32_25
  let v61 : BitVec 32 := Scalar.extui v60
  let c0_i32_26 : BitVec 32 := 0#32
  let v62 : BitVec 1 := Scalar.cmpi .ne v61 c0_i32_26
  v62

def k0_dev2 : Nat :=
  let c0_i32_34 : BitVec 32 := 0#32
  let c1_i32_32 : BitVec 32 := 1#32
  let c1_i32_33 : BitVec 32 := 1#32
  let v69 : BitVec 32 := Scalar.muli c1_i32_32 c1_i32_33
  let v70 : BitVec 32 := Scalar.addi c0_i32_34 v69
  v70.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v63 : BitVec 1 := Scalar.cmpi .ne v2 c2_i32
  let v64 : BitVec 32 := Scalar.extui v63
  let c0_i32_27 : BitVec 32 := 0#32
  let v65 : BitVec 1 := Scalar.cmpi .ne v64 c0_i32_27
  v65

def k0_dev3 : Nat :=
  let c0_i32_34 : BitVec 32 := 0#32
  let c2_i32_32 : BitVec 32 := 2#32
  let c1_i32_33 : BitVec 32 := 1#32
  let v69 : BitVec 32 := Scalar.muli c2_i32_32 c1_i32_33
  let v70 : BitVec 32 := Scalar.addi c0_i32_34 v69
  v70.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v66 : BitVec 1 := Scalar.cmpi .ne v2 c3_i32
  let v67 : BitVec 32 := Scalar.extui v66
  let c0_i32_28 : BitVec 32 := 0#32
  let v68 : BitVec 1 := Scalar.cmpi .ne v67 c0_i32_28
  v68

def k0_dev4 : Nat :=
  let c0_i32_34 : BitVec 32 := 0#32
  let c3_i32_32 : BitVec 32 := 3#32
  let c1_i32_33 : BitVec 32 := 1#32
  let v69 : BitVec 32 := Scalar.muli c3_i32_32 c1_i32_33
  let v70 : BitVec 32 := Scalar.addi c0_i32_34 v69
  v70.toNat
def k0_cond6 (i : grid0.Coords) : BitVec 1 :=
  let arg0 : BitVec 32 := BitVec.ofNat 32 (i 0).val
  let c4_i32_10 : BitVec 32 := 4#32
  let v29 : BitVec 1 := Scalar.cmpi .sge arg0 c4_i32_10
  let v_true : BitVec 1 := 1#1
  let v30 : BitVec 1 := Scalar.andi v29 v_true
  let v31 : BitVec 32 := Scalar.extui v30
  let c0_i32_11 : BitVec 32 := 0#32
  let v32 : BitVec 1 := Scalar.cmpi .ne v31 c0_i32_11
  v32

def k0_off3 (i : grid0.Coords) : Fin 1 → Nat :=
  let arg0 : BitVec 32 := BitVec.ofNat 32 (i 0).val
  let c4_i32_7 : BitVec 32 := 4#32
  let v25 : BitVec 32 := Scalar.remsi arg0 c4_i32_7
  ![v25.toNat]
def k0_off4 (i : grid0.Coords) : Fin 3 → Nat :=
  let arg0 : BitVec 32 := BitVec.ofNat 32 (i 0).val
  let c4_i32_7 : BitVec 32 := 4#32
  let v25 : BitVec 32 := Scalar.remsi arg0 c4_i32_7
  let c0_i32_24 : BitVec 32 := 0#32
  let c0_i32_25 : BitVec 32 := 0#32
  ![v25.toNat, 0, 0]
def k0_off5 (i : grid0.Coords) : Fin 3 → Nat :=
  let arg0 : BitVec 32 := BitVec.ofNat 32 (i 0).val
  let c4_i32_7 : BitVec 32 := 4#32
  let v25 : BitVec 32 := Scalar.remsi arg0 c4_i32_7
  let v40 : Index := Scalar.indexCast v25
  let c0_16 : Index := 0#32
  let c0_17 : Index := 0#32
  ![v40.toNat, 0, 0]
def k0_cond7 (i : grid0.Coords) : BitVec 1 :=
  let arg0 : BitVec 32 := BitVec.ofNat 32 (i 0).val
  let c12_i32 : BitVec 32 := 12#32
  let v46 : BitVec 1 := Scalar.cmpi .slt arg0 c12_i32
  let v47 : BitVec 32 := Scalar.extui v46
  let c0_i32_18 : BitVec 32 := 0#32
  let v48 : BitVec 1 := Scalar.cmpi .ne v47 c0_i32_18
  v48

def k0_off6 (i : grid0.Coords) : Fin 1 → Nat :=
  let arg0 : BitVec 32 := BitVec.ofNat 32 (i 0).val
  let c4_i32_7 : BitVec 32 := 4#32
  let v25 : BitVec 32 := Scalar.remsi arg0 c4_i32_7
  ![v25.toNat]
def k0_off7 (d0 : Dev nD) (v23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v44 : BitVec 32 := Scalar.muli v2 c1024_i32
  let c4_i32_6 : BitVec 32 := 4#32
  let v24 : BitVec 32 := Scalar.remsi v23 c4_i32_6
  let c512_i32 : BitVec 32 := 512#32
  let v45 : BitVec 32 := Scalar.muli v24 c512_i32
  ![v44.toNat, v45.toNat]

def k0_off8 (i : grid0.Coords) : Fin 3 → Nat :=
  let arg0 : BitVec 32 := BitVec.ofNat 32 (i 0).val
  let c4_i32_7 : BitVec 32 := 4#32
  let v25 : BitVec 32 := Scalar.remsi arg0 c4_i32_7
  let c0_i32_25 : BitVec 32 := 0#32
  let c0_i32_26 : BitVec 32 := 0#32
  ![v25.toNat, 0, 0]
def k0_dev5 (v4 : BitVec 32) : Nat :=
  let c0_i32_24 : BitVec 32 := 0#32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c4_i32_0 : BitVec 32 := 4#32
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let v5 : BitVec 32 := Scalar.divsi v4 c4_i32_0
  let c1_i32_5 : BitVec 32 := 1#32
  let v20 : BitVec 32 := Scalar.subi v5 c1_i32_5
  let v21 : BitVec 32 := Scalar.select v19 v20 v5
  let c1_i32_23 : BitVec 32 := 1#32
  let v56 : BitVec 32 := Scalar.muli v21 c1_i32_23
  let v57 : BitVec 32 := Scalar.addi c0_i32_24 v56
  v57.toNat

def k0_chk2 (i : grid0.Coords) (v4 : BitVec 32) : Prop :=
  (∀ (k0_h7 : k0_cond7 i = 1#1), (k0_dev5 v4) < nD)
theorem k0_dev5_lt : ∀ (i : grid0.Coords) (v4 : BitVec 32) (k0_hw2 : k0_chk2 i v4), ∀ (k0_h7 : k0_cond7 i = 1#1), (k0_dev5 v4) < nD := fun i v4 k0_hw2 k0_h7 => k0_hw2 k0_h7

def k0_cond8 (i : grid0.Coords) : BitVec 1 :=
  let arg0 : BitVec 32 := BitVec.ofNat 32 (i 0).val
  let c12_i32_19 : BitVec 32 := 12#32
  let v49 : BitVec 1 := Scalar.cmpi .sge arg0 c12_i32_19
  let v50 : BitVec 32 := Scalar.extui v49
  let c0_i32_20 : BitVec 32 := 0#32
  let v51 : BitVec 1 := Scalar.cmpi .ne v50 c0_i32_20
  v51

def k0_off9 (d0 : Dev nD) (v23 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v44 : BitVec 32 := Scalar.muli v2 c1024_i32
  let c4_i32_6 : BitVec 32 := 4#32
  let v24 : BitVec 32 := Scalar.remsi v23 c4_i32_6
  let c512_i32 : BitVec 32 := 512#32
  let v45 : BitVec 32 := Scalar.muli v24 c512_i32
  ![v44.toNat, v45.toNat]

def k0_chk1 (i : grid0.Coords) (d0 : Dev nD) (v23 : BitVec 32) : Prop :=
  (∀ (k0_h7 : k0_cond7 i = 1#1), ∀ a, (k0_off7 d0 v23) a + S1024x512.size a ≤ S4096x2048.size a) ∧
  (∀ (k0_h8 : k0_cond8 i = 1#1), ∀ a, (k0_off9 d0 v23) a + S1024x512.size a ≤ S4096x2048.size a)
theorem k0_off7_inb : ∀ (i : grid0.Coords) (d0 : Dev nD) (v23 : BitVec 32) (k0_hw1 : k0_chk1 i d0 v23), ∀ (k0_h7 : k0_cond7 i = 1#1), ∀ a, (k0_off7 d0 v23) a + S1024x512.size a ≤ S4096x2048.size a := fun i d0 v23 k0_hw1 k0_h7 => k0_hw1.1 k0_h7
theorem k0_off9_inb : ∀ (i : grid0.Coords) (d0 : Dev nD) (v23 : BitVec 32) (k0_hw1 : k0_chk1 i d0 v23), ∀ (k0_h8 : k0_cond8 i = 1#1), ∀ a, (k0_off9 d0 v23) a + S1024x512.size a ≤ S4096x2048.size a := fun i d0 v23 k0_hw1 k0_h8 => k0_hw1.2 k0_h8

def k0_off10 (i : grid0.Coords) : Fin 3 → Nat :=
  let arg0 : BitVec 32 := BitVec.ofNat 32 (i 0).val
  let c4_i32_7 : BitVec 32 := 4#32
  let v25 : BitVec 32 := Scalar.remsi arg0 c4_i32_7
  let c0_i32_23 : BitVec 32 := 0#32
  let c0_i32_24 : BitVec 32 := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![c0_i32.toNat, v1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Table.lean ====
/-
# The prefetched table, evaluated

The host lines of `main` build, on each device, the list of column blocks that the grid walks.  Word `t` of device `c`'s
list is `((c + 1 + t / 4) % 4) * 4 + t % 4`: three other devices' four column blocks first, the device's own four last.
-/
module

public import proofs.«01_k».proof.Proof.Gen.KernelIdeal.Regions
public import Idealize.ShloMosaic.Lib.StableHlo
public import Idealize.ShloMosaic.Lib.StableHlo.RunRead
public import Idealize.ShloMosaic.Lib.StableHlo.ReadAt
public import Idealize.ShloMosaic.Lib.Tactic
public import Idealize.ShloMosaic.PureOps

@[expose] public section

noncomputable section

namespace Cert.KernelIdeal.Talk

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- Whose column blocks device `c` computes at grid point `t`. -/
def peer (c : Dev nD) (t : ℕ) : Dev nD := ⟨(c.val + 1 + t / 4) % 4, Nat.mod_lt _ (by decide)⟩
/-- Which of that device's four column blocks, and which of the four scratch slots. -/
def quarter (t : ℕ) : Fin 4 := ⟨t % 4, Nat.mod_lt _ (by decide)⟩

/-- The column block that device `c` computes at grid point `t`, out of the sixteen. -/
def colBlock (c : Dev nD) (t : ℕ) : ℕ := 4 * (peer c t).val + (quarter t).val

/-- The host's sign of a word, as the lines spell it. -/
def signWord (x : BitVec 32) : BitVec 32 := if x = 0 then 0 else if x.msb = true then -1 else 1

/-- The host's division rounding down, as the lines spell it. -/
def floorDiv (x y : BitVec 32) : BitVec 32 :=
  Scalar.select (IntOp.andi (IntOp.cmpi .ne (signWord x) (signWord y)) (IntOp.cmpi .ne (IntOp.remsi .host x y) 0#32))
    (IntOp.subi (IntOp.divsi .host x y) 1#32) (IntOp.divsi .host x y)

/-- The host's remainder of the divisor's sign, as the lines spell it. -/
def floorMod (x y : BitVec 32) : BitVec 32 :=
  let y' := Scalar.select (IntOp.cmpi .eq y 0#32) 1#32 y
  Scalar.select (IntOp.andi (IntOp.cmpi .ne (IntOp.cmpi .slt (IntOp.remsi .host x y') 0#32) (IntOp.cmpi .slt y' 0#32))
      (IntOp.cmpi .ne (IntOp.remsi .host x y') 0#32))
    (IntOp.addi (IntOp.remsi .host x y') y') (IntOp.remsi .host x y')

/-- Word `n` of the list of the device whose word is `w`, as the lines compute it. -/
def tableWord (w n : BitVec 32) : BitVec 32 :=
  IntOp.addi (IntOp.muli (floorMod (IntOp.addi (IntOp.addi w 1#32) (floorDiv n 4#32)) 4#32) 4#32) (floorMod n 4#32)

theorem tableWord_eq : ∀ (c : Fin 4) (n : Fin 16), tableWord (BitVec.ofNat 32 c.val) (BitVec.ofNat 32 n.val)
    = BitVec.ofNat 32 (4 * ((c.val + 1 + n.val / 4) % 4) + n.val % 4) := by decide +kernel

theorem word_eq : ∀ c : Dev nD, IntOp.remui .host (IntOp.divui .host c.word 1#32) 4#32 = BitVec.ofNat 32 c.val := by
  decide +kernel

theorem table_read (c : Dev nD) (j : S16.Idx) : (V7 m c main_v14 : IVec S16 32) j
    = tableWord (IntOp.remui .host (IntOp.divui .host c.word 1#32) 4#32) (BitVec.ofNat 32 (j 0).val) := by
  unfold V7 V6 V5 V4 V3 V2 V1 V0
  after_reads_at
  rfl

/-- Word `t` of device `c`'s list is `colBlock c t`. -/
theorem table_eq (c : Dev nD) (j : S16.Idx) : (V7 m c main_v14 : IVec S16 32) j = BitVec.ofNat 32 (colBlock c (j 0).val) := by
  rw [table_read, word_eq]
  exact tableWord_eq c (j 0)

end Cert.KernelIdeal.Talk

end
-- ==== Proof.KernelIdeal.Points.lean ====
/-
# The grid points' guards and offsets

Each guard of the body as a condition on the grid point or on the device, and the offsets, the destination device and the
two checks of the body at the word that the table holds at the point.
-/
module

public import proofs.«01_k».proof.Proof.KernelIdeal.Table

@[expose] public section

namespace Cert.KernelIdeal.Talk

open Cert.KernelIdeal Cert.KernelIdeal.Gen
open Idealize.ShloMosaic Idealize.ShloMosaic.TcCoe

/-- The first point. -/
theorem cond1_iff : ∀ i : grid0.Coords, k0_cond1 i = 1#1 ↔ (i 0).val = 0 := by decide +kernel
/-- A point that reuses a scratch slot. -/
theorem cond6_iff : ∀ i : grid0.Coords, k0_cond6 i = 1#1 ↔ 4 ≤ (i 0).val := by decide +kernel
/-- A point whose tile goes to another device. -/
theorem cond7_iff : ∀ i : grid0.Coords, k0_cond7 i = 1#1 ↔ (i 0).val < 12 := by decide +kernel
/-- A point whose tile stays. -/
theorem cond8_iff : ∀ i : grid0.Coords, k0_cond8 i = 1#1 ↔ 12 ≤ (i 0).val := by decide +kernel
/-- The last point, as the body's last guard spells it. -/
theorem last_iff : ∀ i : grid0.Coords,
    Scalar.cmpi .ne (Scalar.extui (Scalar.andi (Scalar.cmpi .eq (BitVec.ofNat 32 (i 0).val) 15#32) 1#1) : BitVec 32) 0#32 = 1#1 ↔ (i 0).val = 15 := by
  decide +kernel

/-- The four barrier signals: to every device but the own. -/
theorem cond2_iff : ∀ c : Dev nD, k0_cond2 c = 1#1 ↔ c ≠ 0 := by decide +kernel
theorem cond3_iff : ∀ c : Dev nD, k0_cond3 c = 1#1 ↔ c ≠ 1 := by decide +kernel
theorem cond4_iff : ∀ c : Dev nD, k0_cond4 c = 1#1 ↔ c ≠ 2 := by decide +kernel
theorem cond5_iff : ∀ c : Dev nD, k0_cond5 c = 1#1 ↔ c ≠ 3 := by decide +kernel

/-- The table's word at a point. -/
def word (c : Dev nD) (t : ℕ) : BitVec 32 := BitVec.ofNat 32 (colBlock c t)

theorem dev5_fin : ∀ (c : Dev nD) (t : Fin 16), k0_dev5 (word c t.val) = (peer c t.val).val := by decide +kernel
theorem off7_fin : ∀ (c : Dev nD) (t : Fin 16), k0_off7 c (word c t.val) = ![1024 * c.val, 512 * (quarter t.val).val] := by decide +kernel
theorem off9_fin : ∀ (c : Dev nD) (t : Fin 16), k0_off9 c (word c t.val) = ![1024 * c.val, 512 * (quarter t.val).val] := by decide +kernel

/-- The destination is the device whose column block the point computes. -/
theorem dev5_eq (c : Dev nD) {t : ℕ} (ht : t < 16) : k0_dev5 (word c t) = (peer c t).val := dev5_fin c ⟨t, ht⟩
/-- The tile's offsets in the result: the own row block, the point's quarter of the columns. -/
theorem off7_eq (c : Dev nD) {t : ℕ} (ht : t < 16) : k0_off7 c (word c t) = ![1024 * c.val, 512 * (quarter t).val] := off7_fin c ⟨t, ht⟩
theorem off9_eq (c : Dev nD) {t : ℕ} (ht : t < 16) : k0_off9 c (word c t) = ![1024 * c.val, 512 * (quarter t).val] := off9_fin c ⟨t, ht⟩

theorem tile_inb : ∀ (d q : Fin 4) (a : Fin 2), (![1024 * d.val, 512 * q.val] : Fin 2 → ℕ) a + S1024x512.size a ≤ S4096x2048.size a := by decide +kernel
theorem slot_inb : ∀ (s : Fin 4) (a : Fin 3), (![s.val, 0, 0] : Fin 3 → ℕ) a + S1x1024x512.size a ≤ S4x1024x512.size a := by decide +kernel
theorem sem_inb : ∀ (s : Fin 4) (a : Fin 1), (![s.val] : Fin 1 → ℕ) a + S1.size a ≤ S4.size a := by decide +kernel

/-- Both checks of the body hold at the table's word. -/
theorem chk1 (i : grid0.Coords) (c : Dev nD) {t : ℕ} (ht : t < 16) : k0_chk1 i c (word c t) := by
  unfold k0_chk1
  refine ⟨fun _ a => ?_, fun _ a => ?_⟩
  · rw [off7_eq c ht]; exact tile_inb c (quarter t) a
  · rw [off9_eq c ht]; exact tile_inb c (quarter t) a
theorem chk2 (i : grid0.Coords) (c : Dev nD) {t : ℕ} (ht : t < 16) : k0_chk2 i (word c t) := by
  unfold k0_chk2
  intro _
  rw [dev5_eq c ht]; exact (peer c t).isLt

/-- A tile that is sent goes to another device; one that stays is the own. -/
theorem peer_ne (c : Dev nD) {t : ℕ} (ht : t < 12) : peer c t ≠ c := by
  have hc : c.val < 4 := c.isLt
  intro h; have h' := congrArg Fin.val h; simp only [peer] at h'; omega
theorem peer_self (c : Dev nD) {t : ℕ} (h₁ : 12 ≤ t) (h₂ : t < 16) : peer c t = c := by
  have hc : c.val < 4 := c.isLt
  apply Fin.ext; simp only [peer]; omega

end Cert.KernelIdeal.Talk
-- ==== Proof.KernelIdeal.Cells.lean ====
/-
# The cells of the exchange, and what each landing hands over

Device `c` computes sixteen tiles.  Twelve go to the other devices by remote copies out of a ring of four scratch slots, four
stay and are copied within the device.

* The barrier cell of `c` (regular semaphore, live from the launch): each other device pays one unit at its first grid point.
  With the unit it hands over the row block `c` of its own result and the fact that its receive cell is open.
* The send cell `s` of `c`, one per scratch slot: three rounds, one per remote copy out of the slot.  The copy hands the slot back.
* The receive cell of `c`: one round of twelve landings, one per tile of another device.  Each hands over the tile's part of
  the result of `c`, at the tile's value.
* The local cell of `c`: four rounds, one per copy of an own tile.  Each hands over the tile's part of the result, at the
  tile's value, and the slot.
-/
module

public import proofs.«01_k».proof.Proof.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.ValueIdxCore

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A duty's name: a device and one of its four column blocks. -/
abbrev Duty : Type := Dev nD × Fin 4

abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR

variable (m : (ℓ : Loc nD τ sig) → Buf (Elt F) ℓ)

/-! ## Memory -/

/-- The result, whole, and the scratch, whole. -/
abbrev outM : Memref sig .tc .hbm S4096x2048 .f32 := Memref.whole main_v15
abbrev scrM : Memref sig .tc .vmem S4x1024x512 .f32 := Memref.whole cc0_scratch0

/-- The tile of the result that device `d` fills: row block `d`, quarter `q` of the columns. -/
abbrev tileM (d : Dev nD) (q : Fin 4) : Memref sig .tc .hbm S1024x512 .f32 :=
  outM.slice (Rect.unit (s := S4096x2048) ![1024 * d.val, 512 * q.val] S1024x512.size (tile_inb d q)) (fun _ => rfl)
/-- A slot of the scratch. -/
abbrev slotM (s : Fin 4) : Memref sig .tc .vmem S1024x512 .f32 :=
  (scrM.slice (Rect.unit (s := S4x1024x512) ![s.val, 0, 0] S1x1024x512.size (slot_inb s)) (fun _ => rfl)).squeeze S1024x512
    squeezes_S1x1024x512_S1024x512

/-! ## Contents -/

/-- Column block `p` of device `c`'s weights. -/
def wBlock (c : Dev nD) (p : ℕ) : Vec F S4096x512 .f32 := fun j =>
  (m ((c : Thread nD τ).loc main_arg1) : S4096x8192.Idx → Elt F .f32)
    (ix2 (j 0) ⟨(512 * p + (j 1).val) % 8192, Nat.mod_lt _ (by decide)⟩)

/-- The tile that device `c` computes against column block `p`: its rows of `x` times the block, negative entries replaced by
    zero. As stored into a slot, and as the copies read it. -/
def stored (c : Dev nD) (p : ℕ) : FVec F S1x1024x512 .f32 :=
  k0_pay1 (k0_pay2 (m ((c : Thread nD τ).loc main_arg0) : Vec F S1024x4096 .f32)) (wBlock m c p)
def tileVal (c : Dev nD) (p : ℕ) : Vec F S1024x512 .f32 := shapeCast S1024x512 (stored m c p) squeezes_S1x1024x512_S1024x512.numel_eq

/-- What device `e`'s result holds in the end: in row block `d`, quarter `q` of the columns, the tile that device `d` computes
    against column block `4 e + q`. -/
def outFinal (e : Dev nD) : (main_v15 : Ref sig .tc).ty.Contents (Elt F) := fun (i : S4096x2048.Idx) =>
  tileVal m ⟨(i 0).val / 1024 % 4, Nat.mod_lt _ (by decide)⟩ (4 * e.val + (i 1).val / 512)
    (ix2 ⟨(i 0).val % 1024, Nat.mod_lt _ (by decide)⟩ ⟨(i 1).val % 512, Nat.mod_lt _ (by decide)⟩)

/-! ## Points-tos -/

/-- Device `e`'s part of the result that device `d`'s tile `q` fills, at the contents `f`. -/
abbrev tilePts (e d : Dev nD) (q : Fin 4) (f : Buf (Elt F) ((e : Thread nD τ).loc main_v15)) : sProp 𝕄 :=
  (tileM d q).view.loc (e : Thread nD τ) ↦[(tileM d q).view.set]{fullShare} f
/-- The same at contents not chosen. -/
def tileAny (e d : Dev nD) (q : Fin 4) : sProp 𝕄 := iprop(∃ f : Buf (Elt F) ((e : Thread nD τ).loc main_v15), tilePts e d q f)
/-- The same, filled. -/
def tileDone (e d : Dev nD) (q : Fin 4) : sProp 𝕄 := tilePts e d q (outFinal m e)

abbrev slotPts (c : Dev nD) (s : Fin 4) (f : Buf (Elt F) ((c : Thread nD τ).loc cc0_scratch0)) : sProp 𝕄 :=
  (slotM s).view.loc (c : Thread nD τ) ↦[(slotM s).view.set]{fullShare} f
def slotAny (c : Dev nD) (s : Fin 4) : sProp 𝕄 := iprop(∃ f : Buf (Elt F) ((c : Thread nD τ).loc cc0_scratch0), slotPts c s f)

instance (e d : Dev nD) (q : Fin 4) : BI.Storable (upEmb : UEmb _ 𝕄) (tileAny (F := F) e d q) := by unfold tileAny; infer_instance
instance (e d : Dev nD) (q : Fin 4) : BI.Storable (upEmb : UEmb _ 𝕄) (tileDone m e d q) := by unfold tileDone; infer_instance
instance (c : Dev nD) (s : Fin 4) : BI.Storable (upEmb : UEmb _ 𝕄) (slotAny (F := F) c s) := by unfold slotAny; infer_instance

/-! ## Cells -/

abbrev barS : Sem sig := sig.barrier 0 rfl
abbrev sendS (s : Fin 4) : DmaSem sig :=
  ((cc0_scratch1.slice (Rect.unit (s := S4) ![s.val] S1.size (sem_inb s))).squeeze S_ squeezes_S1_S_).sem
abbrev recvS : DmaSem sig := cc0_scratch2.sem
abbrev locS : DmaSem sig := cc0_scratch3.sem

abbrev barCell (c : Dev nD) : GSem nD τ sig := ((c : Thread nD τ), .reg barS)
abbrev sendCell (c : Dev nD) (s : Fin 4) : GSem nD τ sig := ((c : Thread nD τ), .dma (sendS s))
abbrev recvCell (c : Dev nD) : GSem nD τ sig := ((c : Thread nD τ), .dma recvS)
abbrev locCell (c : Dev nD) : GSem nD τ sig := ((c : Thread nD τ), .dma locS)

/-- What one copy of a tile credits. -/
def N : ℕ := (tileM 0 0).view.dmaCredit
theorem N_pos : 0 < N := View.dmaCredit_pos _ (by decide)
theorem N_tile (d : Dev nD) (q : Fin 4) : (tileM d q).view.dmaCredit = N := rfl
theorem N_slot (s : Fin 4) : (slotM s).view.dmaCredit = N := rfl

/-- Which slot a send semaphore belongs to. -/
def slotOf (sm : SemLoc sig) : Fin 4 :=
  if sm = .dma (sendS 0) then 0 else if sm = .dma (sendS 1) then 1 else if sm = .dma (sendS 2) then 2 else 3
theorem slotOf_send : ∀ s : Fin 4, slotOf (.dma (sendS s)) = s := by decide +kernel

theorem recv_ne_bar : (SemLoc.dma recvS : SemLoc sig) ≠ .reg barS := fun h => by cases h
theorem loc_ne_bar : (SemLoc.dma locS : SemLoc sig) ≠ .reg barS := fun h => by cases h
theorem send_ne_bar (s : Fin 4) : (SemLoc.dma (sendS s) : SemLoc sig) ≠ .reg barS := fun h => by cases h
theorem loc_ne_recv : (SemLoc.dma locS : SemLoc sig) ≠ .dma recvS := by decide +kernel
theorem send_ne_recv : ∀ s : Fin 4, (SemLoc.dma (sendS s) : SemLoc sig) ≠ .dma recvS := by decide +kernel
theorem send_ne_loc : ∀ s : Fin 4, (SemLoc.dma (sendS s) : SemLoc sig) ≠ .dma locS := by decide +kernel

/-! ## The schedule -/

/-- Who pays the barrier cell of `c`: each other device, once. -/
def barDuties (c : Dev nD) : Finset Duty := (Finset.univ.erase c).map ⟨fun d => (d, 0), fun _ _ h => congrArg Prod.fst h⟩
/-- Which tiles land on device `c`: each other device's four. -/
def recvDuties (c : Dev nD) : Finset Duty := (Finset.univ.erase c) ×ˢ Finset.univ

/-- What device `d` hands over with its unit to device `c`. -/
def barPay (c d : Dev nD) : sProp 𝕄 := iprop((bigSep Finset.univ fun q : Fin 4 => tileAny d c q) ∗ reached ER (recvCell d) 0)

instance (c d : Dev nD) : BI.Storable (upEmb : UEmb _ 𝕄) (barPay (F := F) c d) := by unfold barPay; infer_instance

def talkRd : Rounds.Schedule (GSem nD τ sig) Duty 𝕄 where
  duties g r :=
    if g.1.2 ≠ .tc then ∅
    else if g.2 = .reg barS then (if r = 0 then barDuties g.1.1 else ∅)
    else if g.2 = .dma recvS then (if r = 0 then recvDuties g.1.1 else ∅)
    else if g.2 = .dma locS then (if r < 4 then {(g.1.1, 0)} else ∅)
    else if r < 3 then {(g.1.1, 0)} else ∅
  unitless _ := False
  amount g _ _ := if g.2 = .reg barS then 1 else N
  payload g r d :=
    if g.2 = .reg barS then barPay g.1.1 d.1
    else if g.2 = .dma recvS then tileDone m g.1.1 d.1 d.2
    else if g.2 = .dma locS then iprop(tileDone m g.1.1 g.1.1 (quarter r) ∗ slotAny g.1.1 (quarter r))
    else slotAny g.1.1 (slotOf g.2)
  amount_pos g _ _ _ := by
    by_cases h : g.2 = .reg barS
    · rw [if_pos h]; exact Nat.one_pos
    · rw [if_neg h]; exact N_pos

instance talkRd_payload_storable (g : GSem nD τ sig) (r : ℕ) (d : Duty) :
    BI.Storable (upEmb : UEmb _ 𝕄) ((talkRd (F := F) m).payload g r d) := by
  show BI.Storable upEmb (if g.2 = .reg barS then barPay g.1.1 d.1
    else if g.2 = .dma recvS then tileDone m g.1.1 d.1 d.2
    else if g.2 = .dma locS then iprop(tileDone m g.1.1 g.1.1 (quarter r) ∗ slotAny g.1.1 (quarter r))
    else slotAny g.1.1 (slotOf g.2))
  (repeat' split) <;> infer_instance

section Sched

variable (c : Dev nD) (s : Fin 4)

theorem duties_bar : (talkRd (F := F) m).duties (barCell c) 0 = barDuties c := by
  dsimp only [talkRd]; rw [if_neg (not_not.mpr rfl), if_pos rfl, if_pos rfl]
theorem duties_recv : (talkRd (F := F) m).duties (recvCell c) 0 = recvDuties c := by
  dsimp only [talkRd]; rw [if_neg (not_not.mpr rfl), if_neg recv_ne_bar, if_pos rfl, if_pos rfl]
theorem duties_loc {r : ℕ} (h : r < 4) : (talkRd (F := F) m).duties (locCell c) r = {(c, 0)} := by
  dsimp only [talkRd]; rw [if_neg (not_not.mpr rfl), if_neg loc_ne_bar, if_neg loc_ne_recv, if_pos rfl, if_pos h]
theorem duties_send {r : ℕ} (h : r < 3) : (talkRd (F := F) m).duties (sendCell c s) r = {(c, 0)} := by
  dsimp only [talkRd]
  rw [if_neg (not_not.mpr rfl), if_neg (send_ne_bar s), if_neg (send_ne_recv s), if_neg (send_ne_loc s), if_pos h]

theorem bar_end : ∀ r, 1 ≤ r → (talkRd (F := F) m).duties (barCell c) r = ∅ := fun r h => by
  dsimp only [talkRd]; rw [if_neg (not_not.mpr rfl), if_pos rfl, if_neg (by omega)]
theorem recv_end : ∀ r, 1 ≤ r → (talkRd (F := F) m).duties (recvCell c) r = ∅ := fun r h => by
  dsimp only [talkRd]; rw [if_neg (not_not.mpr rfl), if_neg recv_ne_bar, if_pos rfl, if_neg (by omega)]
theorem loc_end : ∀ r, 4 ≤ r → (talkRd (F := F) m).duties (locCell c) r = ∅ := fun r h => by
  dsimp only [talkRd]; rw [if_neg (not_not.mpr rfl), if_neg loc_ne_bar, if_neg loc_ne_recv, if_pos rfl, if_neg (by omega)]
theorem send_end : ∀ r, 3 ≤ r → (talkRd (F := F) m).duties (sendCell c s) r = ∅ := fun r h => by
  dsimp only [talkRd]
  rw [if_neg (not_not.mpr rfl), if_neg (send_ne_bar s), if_neg (send_ne_recv s), if_neg (send_ne_loc s), if_neg (by omega)]

theorem amount_bar (r : ℕ) (d : Duty) : (talkRd (F := F) m).amount (barCell c) r d = 1 := by dsimp only [talkRd]; exact if_pos rfl
theorem amount_dma (x : DmaSem sig) (r : ℕ) (d : Duty) : (talkRd (F := F) m).amount ((c : Thread nD τ), .dma x) r d = N := by
  dsimp only [talkRd]; exact if_neg (fun h => by cases h)

theorem payload_bar (r : ℕ) (d : Duty) : (talkRd (F := F) m).payload (barCell c) r d = barPay c d.1 := by dsimp only [talkRd]; exact if_pos rfl
theorem payload_recv (r : ℕ) (d : Duty) : (talkRd (F := F) m).payload (recvCell c) r d = tileDone m c d.1 d.2 := by
  dsimp only [talkRd]; rw [if_neg recv_ne_bar, if_pos rfl]
theorem payload_loc (r : ℕ) (d : Duty) : (talkRd (F := F) m).payload (locCell c) r d = iprop(tileDone m c c (quarter r) ∗ slotAny c (quarter r)) := by
  dsimp only [talkRd]; rw [if_neg loc_ne_bar, if_neg loc_ne_recv, if_pos rfl]
theorem payload_send (r : ℕ) (d : Duty) : (talkRd (F := F) m).payload (sendCell c s) r d = slotAny c s := by
  dsimp only [talkRd]; rw [if_neg (send_ne_bar s), if_neg (send_ne_recv s), if_neg (send_ne_loc s), slotOf_send]

theorem card_bar : ∀ c : Dev nD, (barDuties c).card = 3 := by decide +kernel
theorem card_recv : ∀ c : Dev nD, (recvDuties c).card = 12 := by decide +kernel

theorem expect_bar : (talkRd (F := F) m).expect (barCell c) 0 = 3 := by
  unfold Schedule.expect Schedule.amountOf
  rw [duties_bar, Finset.sum_congr rfl (fun d _ => amount_bar m c 0 d), Finset.sum_const, card_bar, smul_eq_mul, mul_one]
theorem expect_recv : (talkRd (F := F) m).expect (recvCell c) 0 = 12 * N := by
  unfold Schedule.expect Schedule.amountOf
  rw [duties_recv, Finset.sum_congr rfl (fun d _ => amount_dma m c recvS 0 d), Finset.sum_const, card_recv, smul_eq_mul]
theorem expect_loc {r : ℕ} (h : r < 4) : (talkRd (F := F) m).expect (locCell c) r = N := by
  unfold Schedule.expect Schedule.amountOf; rw [duties_loc m c h, Finset.sum_singleton, amount_dma]
theorem expect_send {r : ℕ} (h : r < 3) : (talkRd (F := F) m).expect (sendCell c s) r = N := by
  unfold Schedule.expect Schedule.amountOf; rw [duties_send m c s h, Finset.sum_singleton, amount_dma]

theorem rest_bar : bigSep ((talkRd (F := F) m).duties (barCell c) 0 \ ∅) (fun d => (talkRd (F := F) m).payload (barCell c) 0 d)
    = bigSep (Finset.univ.erase c) fun d : Dev nD => (barPay c d : sProp 𝕄) := by
  rw [Finset.sdiff_empty, duties_bar, barDuties, bigSep_map]
  exact bigSep_congr fun d _ => payload_bar m c 0 _
theorem rest_loc {r : ℕ} (h : r < 4) : bigSep ((talkRd (F := F) m).duties (locCell c) r \ ∅) (fun d => (talkRd (F := F) m).payload (locCell c) r d)
    = iprop(tileDone m c c (quarter r) ∗ slotAny c (quarter r)) := by
  rw [Finset.sdiff_empty, duties_loc m c h, bigSep_singleton, payload_loc]
theorem rest_send {r : ℕ} (h : r < 3) : bigSep ((talkRd (F := F) m).duties (sendCell c s) r \ ∅) (fun d => (talkRd (F := F) m).payload (sendCell c s) r d)
    = slotAny c s := by
  rw [Finset.sdiff_empty, duties_send m c s h, bigSep_singleton, payload_send]

end Sched

/-! ## What is still owed; the levels -/

/-- When device `c` computes the tile for column block `dq`. -/
def timeOf (c : Dev nD) (dq : Duty) : ℕ := 4 * ((dq.1.val + 7 - c.val) % 4) + dq.2.val
/-- The tiles that device `c` has still to send before grid point `n`. -/
def rem (c : Dev nD) (n : ℕ) : Finset Duty := Finset.univ.filter fun dq => n ≤ timeOf c dq ∧ timeOf c dq < 12

theorem rem_zero : ∀ c : Dev nD, rem c 0 = recvDuties c := by decide +kernel
theorem rem_step_fin : ∀ (c : Dev nD) (t : Fin 12), (peer c t.val, quarter t.val) ∉ rem c (t.val + 1)
    ∧ rem c t.val = insert (peer c t.val, quarter t.val) (rem c (t.val + 1)) := by decide +kernel
theorem rem_notMem (c : Dev nD) {t : ℕ} (h : t < 12) : (peer c t, quarter t) ∉ rem c (t + 1) := (rem_step_fin c ⟨t, h⟩).1
theorem rem_step (c : Dev nD) {t : ℕ} (h : t < 12) : rem c t = insert (peer c t, quarter t) (rem c (t + 1)) := (rem_step_fin c ⟨t, h⟩).2
theorem rem_late (c : Dev nD) {n : ℕ} (h : 12 ≤ n) : rem c n = ∅ :=
  Finset.filter_eq_empty_iff.mpr fun dq _ hq => by omega

/-- The landings that device `c` still owes before grid point `n`. -/
def recvOwed (c : Dev nD) (n : ℕ) : CellTallies nD τ sig Unit := ∑ dq ∈ rem c n, tallyAt (recvCell dq.1) () N
/-- The devices from `k` on that device `c` has still to signal. -/
def sig' (c : Dev nD) (k : ℕ) : Finset (Dev nD) := Finset.univ.filter fun d => k ≤ d.val ∧ d ≠ c
def barOwed (c : Dev nD) (k : ℕ) : CellTallies nD τ sig Unit := ∑ d ∈ sig' c k, tallyAt (barCell d) () 1
def owedAt (c : Dev nD) (n : ℕ) : CellTallies nD τ sig Unit := if n = 0 then recvOwed c 0 + barOwed c 0 else recvOwed c n

theorem recvOwed_step (c : Dev nD) {t : ℕ} (h : t < 12) :
    recvOwed c t = recvOwed c (t + 1) + tallyAt (recvCell (peer c t)) () N := by
  unfold recvOwed; rw [rem_step c h, Finset.sum_insert (rem_notMem c h), add_comm]
theorem recvOwed_late (c : Dev nD) {n : ℕ} (h : 12 ≤ n) : recvOwed c n = 0 := by unfold recvOwed; rw [rem_late c h, Finset.sum_empty]

theorem sig_step_fin : ∀ (c k : Dev nD), (c ≠ k → k ∉ sig' c (k.val + 1) ∧ sig' c k.val = insert k (sig' c (k.val + 1)))
    ∧ (c = k → sig' c k.val = sig' c (k.val + 1)) := by decide +kernel
theorem sig_zero : ∀ c : Dev nD, sig' c 0 = Finset.univ.erase c := by decide +kernel
theorem sig_four : ∀ c : Dev nD, sig' c 4 = ∅ := by decide +kernel
theorem barOwed_step (c k : Dev nD) (h : c ≠ k) : barOwed c k.val = barOwed c (k.val + 1) + tallyAt (barCell k) () 1 := by
  unfold barOwed; rw [((sig_step_fin c k).1 h).2, Finset.sum_insert ((sig_step_fin c k).1 h).1, add_comm]
theorem barOwed_skip (c k : Dev nD) (h : c = k) : barOwed c k.val = barOwed c (k.val + 1) := by
  unfold barOwed; rw [(sig_step_fin c k).2 h]
theorem barOwed_four (c : Dev nD) : barOwed c 4 = 0 := by unfold barOwed; rw [sig_four, Finset.sum_empty]

def L (g : GSem nD τ sig) : Finset Unit := if g.1.2 = .tc then {()} else ∅
/-- Barrier cells at 1, receive cells at 2, the rest at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_sum_pos {I : Type} {s : Finset I} {f : I → GSem nD τ sig} {k : ℕ} {g : GSem nD τ sig} {u : Unit}
    (h : 0 < (∑ i ∈ s, (tallyAt (f i) () k : CellTallies nD τ sig Unit)) g u) : ∃ i ∈ s, g = f i := by
  classical
  induction s using Finset.induction_on with
  | empty => rw [Finset.sum_empty] at h; exact absurd h (Nat.lt_irrefl 0)
  | insert i s hi ih =>
    rw [Finset.sum_insert hi, Pi.add_apply, Finsupp.add_apply] at h
    rcases Nat.add_pos_iff_pos_or_pos.mp h with h | h
    · rw [tallyAt_apply] at h
      split at h
      · next hg => exact ⟨i, Finset.mem_insert_self _ _, hg.1⟩
      · exact absurd h (Nat.lt_irrefl 0)
    · obtain ⟨j, hj, e⟩ := ih h
      exact ⟨j, Finset.mem_insert_of_mem hj, e⟩

theorem recvOwed_pos {c : Dev nD} {n : ℕ} {g : GSem nD τ sig} {u : Unit} (h : 0 < recvOwed c n g u) : ∃ d : Dev nD, g = recvCell d := by
  obtain ⟨dq, -, e⟩ := tally_sum_pos h; exact ⟨dq.1, e⟩
theorem owedAt_pos {c : Dev nD} {n : ℕ} {g : GSem nD τ sig} {u : Unit} (h : 0 < owedAt c n g u) :
    (∃ d : Dev nD, g = recvCell d) ∨ ∃ d : Dev nD, g = barCell d := by
  unfold owedAt at h
  split at h
  · rw [Pi.add_apply, Finsupp.add_apply] at h
    rcases Nat.add_pos_iff_pos_or_pos.mp h with h | h
    · exact .inl (recvOwed_pos h)
    · obtain ⟨d, -, e⟩ := tally_sum_pos h; exact .inr ⟨d, e⟩
  · exact .inl (recvOwed_pos h)

/-- A device may wait at its barrier cell while it owes landings only. -/
theorem mayWait_bar (c : Dev nD) (n : ℕ) : (levAts L lv : sProp 𝕄) ⊢ MayWait (c : Thread nD τ) (.reg barS) () (recvOwed c n) :=
  MayOwe.of_cut (L := L) (lev := lv) 1 (fun p hp => by rw [Finset.mem_singleton.mp hp, L_tc]; exact Finset.mem_singleton_self _)
    (fun g u hg => by obtain ⟨d, rfl⟩ := recvOwed_pos hg; rw [L_tc]; exact Finset.mem_singleton_self _)
    (fun p hp => by rw [Finset.mem_singleton.mp hp]; dsimp only [lv]; rw [if_pos rfl])
    (fun g u hg => by obtain ⟨d, rfl⟩ := recvOwed_pos hg; dsimp only [lv]; rw [if_neg recv_ne_bar, if_pos rfl]; decide)

/-- A device may wait at any of its copies' cells but the receive cell while it owes landings and barrier units. -/
theorem mayWait_dma (c : Dev nD) (n : ℕ) (x : DmaSem sig) (hx : (SemLoc.dma x : SemLoc sig) ≠ .dma recvS) :
    (levAts L lv : sProp 𝕄) ⊢ MayWait (c : Thread nD τ) (.dma x) () (owedAt c n) :=
  MayOwe.of_cut (L := L) (lev := lv) 0 (fun p hp => by rw [Finset.mem_singleton.mp hp, L_tc]; exact Finset.mem_singleton_self _)
    (fun g u hg => by rcases owedAt_pos hg with ⟨d, rfl⟩ | ⟨d, rfl⟩ <;> (rw [L_tc]; exact Finset.mem_singleton_self _))
    (fun p hp => by rw [Finset.mem_singleton.mp hp]; dsimp only [lv]; rw [if_neg (fun h => by cases h), if_neg hx])
    (fun g u hg => by
      rcases owedAt_pos hg with ⟨d, rfl⟩ | ⟨d, rfl⟩
      · dsimp only [lv]; rw [if_neg recv_ne_bar, if_pos rfl]; decide
      · dsimp only [lv]; rw [if_pos rfl]; decide)

end Cert.KernelIdeal.Talk

end
-- ==== Proof.KernelIdeal.State.lean ====
/-
# What a device holds between two grid points

The ghost state and the memory of device `c` before grid point `n`, cell by cell: the barrier and the right to write into the
other devices' results, the tokens of the landings still to send, the own tiles, the four slots with their send cells, the
local cell and the receive cell.
-/
module

public import proofs.«01_k».proof.Proof.KernelIdeal.Cells
public import Idealize.SL.BI.BigOpNat
public import Idealize.ShloMosaic.Lib.SparseCore.Launch

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' invariants -/

/-- The six semaphores that the region brings: four send semaphores, the receive and the local one. -/
def osem : Fin 6 → SemLoc sig := fun k =>
  if h : k.val < 4 then .dma (sendS ⟨k.val, h⟩) else if k.val = 4 then .dma recvS else .dma locS

theorem osem_send : ∀ s : Fin 4, osem ⟨s.val, by omega⟩ = .dma (sendS s) := fun s => by
  unfold osem; rw [dif_pos s.isLt]
theorem osem_recv : osem 4 = .dma recvS := rfl
theorem osem_loc : osem 5 = .dma locS := rfl
theorem osem_inj : Function.Injective osem := by decide +kernel
theorem osem_ne_bar : ∀ k : Fin 6, osem k ≠ .reg barS := by decide +kernel

def barEmb : Dev nD ↪ GSem nD τ sig := ⟨fun c => barCell c, fun _ _ h => congrArg (fun g : GSem nD τ sig => g.1.1) h⟩
def scEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, live from the launch, and the cells that a region opens. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 6) : ((c : Thread nD τ), osem k) ∈ (barCells ∪ scCells : Finset (GSem nD τ sig)) :=
  Finset.mem_union_right _ (Finset.mem_map_of_mem scEmb (Finset.mem_univ (c, k)))
theorem send_mem (c : Dev nD) (s : Fin 4) : sendCell c s ∈ (barCells ∪ scCells : Finset (GSem nD τ sig)) := by
  have h := sc_mem c ⟨s.val, by omega⟩; rwa [osem_send] at h
theorem recv_mem (c : Dev nD) : recvCell c ∈ (barCells ∪ scCells : Finset (GSem nD τ sig)) := sc_mem c 4
theorem loc_mem (c : Dev nD) : locCell c ∈ (barCells ∪ scCells : Finset (GSem nD τ sig)) := sc_mem c 5

/-- Every cell's invariant, under one map of names. -/
def invs (K : GSem nD τ sig → ℕ) : sProp 𝕄 := bigSep (barCells ∪ scCells) fun g => cellInv ER (talkRd m) (K g) g

instance invs_persistent (K : GSem nD τ sig → ℕ) : BI.Persistent (invs m K) := by unfold invs; infer_instance

theorem inv_at (K : GSem nD τ sig → ℕ) {g : GSem nD τ sig} (hg : g ∈ (barCells ∪ scCells : Finset (GSem nD τ sig))) :
    invs m K ⊢ cellInv ER (talkRd m) (K g) g := bigSep_elim hg

/-! ## The barrier, and the right to write into the other devices' results -/

/-- What device `c` hands device `d` with its barrier unit, and the token that pays it. -/
def sigOne (c d : Dev nD) : sProp 𝕄 :=
  iprop((dutyTok ER (barCell d) 0 (c, 0) ∗ reached ER (barCell d) 0) ∗ bigSep Finset.univ fun q : Fin 4 => tileAny c d q)
/-- The devices from `k` on still to signal. -/
def barSt (c : Dev nD) (k : ℕ) : sProp 𝕄 := bigSep (sig' c k) fun d => sigOne c d
/-- The right to write the tiles that device `c` has still to send. -/
def dstOne (c : Dev nD) (dq : Duty) : sProp 𝕄 := iprop(tileAny dq.1 c dq.2 ∗ reached ER (recvCell dq.1) 0)
def dstSt (c : Dev nD) (n : ℕ) : sProp 𝕄 := bigSep (rem c n) fun dq => dstOne c dq
/-- The barrier before grid point `n`. -/
def barrier (c : Dev nD) (n : ℕ) : sProp 𝕄 :=
  if n = 0 then iprop(atPos ER (barCell c) 0 ∅ 0 ∗ cred (tallyAt (barCell c) () 3) ∗ barSt c 0)
  else iprop(semVal (barCell c) 0 ∗ dstSt c n)

/-- The tokens of the landings that device `c` has still to send. -/
def sendToks (c : Dev nD) (n : ℕ) : sProp 𝕄 := bigSep (rem c n) fun dq => dutyTok ER (recvCell dq.1) 0 (c, dq.2)

/-! ## The slots, the own tiles, the local cell, the receive cell -/

/-- Slot `s` at the contents that its reads give as `v`. -/
def slotAt (c : Dev nD) (s : Fin 4) (v : Vec F S1024x512 .f32) : sProp 𝕄 :=
  iprop(∃ f : Buf (Elt F) ((c : Thread nD τ).loc cc0_scratch0), ⌜(slotM s).view.read (Elt F) f = v⌝ ∗ slotPts c s f)

/-- The send cell of slot `s` with `k` copies done and none under way. -/
def sendGh (c : Dev nD) (s : Fin 4) (k : ℕ) : sProp 𝕄 :=
  if k < 3 then iprop(atPos ER (sendCell c s) k ∅ 0 ∗ reached ER (sendCell c s) k
      ∗ bigSep (Finset.Ico k 3) fun r => dutyTok ER (sendCell c s) r (c, 0))
  else semVal (sendCell c s) 0
/-- Slot `s` with its copy number `k` under way. -/
def slotBusy (c : Dev nD) (s : Fin 4) (k : ℕ) : sProp 𝕄 :=
  iprop(cred (tallyAt (sendCell c s) () N) ∗ atPos ER (sendCell c s) k ∅ 0
      ∗ bigSep (Finset.Ico (k + 1) 3) fun r => dutyTok ER (sendCell c s) r (c, 0))
/-- Slot `s` after `j` tiles went through it: the first three are left under way, the fourth is waited for. -/
def slotSt (c : Dev nD) (s : Fin 4) (j : ℕ) : sProp 𝕄 :=
  if j = 0 then iprop(slotAny c s ∗ sendGh c s 0) else if j < 4 then slotBusy c s (j - 1) else iprop(slotAny c s ∗ sendGh c s 3)
/-- How many tiles went through slot `s` before grid point `n`. -/
def cnt (n : ℕ) (s : Fin 4) : ℕ := (n + 3 - s.val) / 4
def slotsSt (c : Dev nD) (n : ℕ) : sProp 𝕄 := bigSep Finset.univ fun s : Fin 4 => slotSt c s (cnt n s)

/-- The own tiles: the first `k` filled. -/
def ownSt (c : Dev nD) (k : ℕ) : sProp 𝕄 :=
  bigSep Finset.univ fun q : Fin 4 => if q.val < k then tileDone m c c q else tileAny c c q

/-- The local cell after `k` copies. -/
def locSt (c : Dev nD) (k : ℕ) : sProp 𝕄 :=
  if k < 4 then iprop(atPos ER (locCell c) k ∅ 0 ∗ reached ER (locCell c) k
      ∗ bigSep (Finset.Ico k 4) fun r => dutyTok ER (locCell c) r (c, 0))
  else semVal (locCell c) 0

/-- The receive cell after `k` of its twelve waits: some of the landings are taken; after the last, all are. -/
def recvGot (c : Dev nD) (k : ℕ) : sProp 𝕄 :=
  if k < 12 then iprop(∃ S : Finset Duty, ⌜S ⊆ recvDuties c⌝ ∗ atPos ER (recvCell c) 0 S (k * N)
      ∗ cred (tallyAt (recvCell c) () ((12 - k) * N)) ∗ bigSep S fun dq => tileDone m c dq.1 dq.2)
  else iprop(semVal (recvCell c) 0 ∗ bigSep (recvDuties c) fun dq => tileDone m c dq.1 dq.2)

/-- What the core owes, under whatever waits it has recorded. -/
def owesE (c : Dev nD) (O : CellTallies nD τ sig Unit) : sProp 𝕄 := iprop(∃ W, owes (c : Thread nD τ) O W)

/-- Everything that device `c` holds before grid point `n`, beside the windows and the table. -/
def Inv (c : Dev nD) (n : ℕ) : sProp 𝕄 :=
  iprop((∃ K, invs m K) ∗ levAts L lv ∗ reached ER (recvCell c) 0
    ∗ barrier c n ∗ sendToks c n ∗ ownSt m c (n - 12) ∗ locSt c (n - 12) ∗ slotsSt c n ∗ recvGot m c (if n < 16 then 0 else 12))

/-! ## Unfolding at a grid point -/

theorem cnt_at : ∀ t : Fin 16, cnt t.val (quarter t.val) = t.val / 4 ∧ cnt (t.val + 1) (quarter t.val) = t.val / 4 + 1
    ∧ ∀ s : Fin 4, s ≠ quarter t.val → cnt (t.val + 1) s = cnt t.val s := by decide +kernel

theorem slots_step (c : Dev nD) {t : ℕ} (ht : t < 16) :
    (slotsSt c t : sProp 𝕄) ⊢ iprop(slotSt c (quarter t) (t / 4) ∗ (slotSt c (quarter t) (t / 4 + 1) -∗ slotsSt c (t + 1))) := by
  have h := cnt_at ⟨t, ht⟩
  have := bigSep_univ_update (Φ := fun s : Fin 4 => (slotSt c s (cnt t s) : sProp 𝕄)) (Ψ := fun s => slotSt c s (cnt (t + 1) s))
    (quarter t) (fun s hs => by rw [h.2.2 s hs])
  rw [h.1, h.2.1] at this
  exact this

theorem own_step (c : Dev nD) {k : ℕ} (hk : k < 4) :
    (ownSt m c k : sProp 𝕄) ⊢ iprop(tileAny c c (quarter k) ∗ (tileDone m c c (quarter k) -∗ ownSt m c (k + 1))) := by
  have hq : (quarter k).val = k := Nat.mod_eq_of_lt hk
  have := bigSep_univ_update (Φ := fun q : Fin 4 => (if q.val < k then tileDone m c c q else tileAny c c q : sProp 𝕄))
    (Ψ := fun q : Fin 4 => if q.val < k + 1 then tileDone m c c q else tileAny c c q) (quarter k)
    (fun q hne => by
      have : q.val ≠ k := fun e => hne (Fin.ext (e.trans hq.symm))
      by_cases h : q.val < k
      · rw [if_pos h, if_pos (by omega)]
      · rw [if_neg h, if_neg (by omega)])
  rw [if_neg (by omega), if_pos (by omega)] at this
  exact this

theorem dst_step (c : Dev nD) {t : ℕ} (h : t < 12) :
    (dstSt c t : sProp 𝕄) = iprop(dstOne c (peer c t, quarter t) ∗ dstSt c (t + 1)) := by
  unfold dstSt; rw [rem_step c h, bigSep_insert (rem_notMem c h)]; rfl
theorem toks_step (c : Dev nD) {t : ℕ} (h : t < 12) :
    (sendToks c t : sProp 𝕄) = iprop(dutyTok ER (recvCell (peer c t)) 0 (c, quarter t) ∗ sendToks c (t + 1)) := by
  unfold sendToks; rw [rem_step c h, bigSep_insert (rem_notMem c h)]; rfl
theorem dst_late (c : Dev nD) {n : ℕ} (h : 12 ≤ n) : (dstSt c n : sProp 𝕄) = BI.emp := by unfold dstSt; rw [rem_late c h]; exact bigSep_empty
theorem toks_late (c : Dev nD) {n : ℕ} (h : 12 ≤ n) : (sendToks c n : sProp 𝕄) = BI.emp := by unfold sendToks; rw [rem_late c h]; exact bigSep_empty

theorem bar_step (c k : Dev nD) (h : c ≠ k) : (barSt c k.val : sProp 𝕄) = iprop(sigOne c k ∗ barSt c (k.val + 1)) := by
  unfold barSt; rw [((sig_step_fin c k).1 h).2, bigSep_insert ((sig_step_fin c k).1 h).1]; rfl
theorem bar_skip (c k : Dev nD) (h : c = k) : (barSt c k.val : sProp 𝕄) = barSt c (k.val + 1) := by
  unfold barSt; rw [(sig_step_fin c k).2 h]

theorem Ico_step {k n : ℕ} (h : k < n) (Φ : ℕ → sProp 𝕄) :
    bigSep (Finset.Ico k n) Φ = iprop(Φ k ∗ bigSep (Finset.Ico (k + 1) n) Φ) := bigSep_Ico_succ_bot h Φ

/-- What the other devices handed over at the barrier is the right to write every tile that `c` sends. -/
theorem dst_intro (c : Dev nD) : bigSep (Finset.univ.erase c) (fun d : Dev nD => (barPay c d : sProp 𝕄)) ⊢ dstSt c 0 := by
  unfold dstSt; rw [rem_zero, recvDuties, SparseCore.bigSep_product]
  refine bigSep_mono fun d _ => ?_
  unfold barPay dstOne
  show iprop((bigSep Finset.univ fun q : Fin 4 => tileAny d c q) ∗ reached ER (recvCell d) 0)
    ⊢ (bigSep Finset.univ fun q : Fin 4 => iprop(tileAny d c q ∗ reached ER (recvCell d) 0) : sProp 𝕄)
  iintro ⟨H, #Hr⟩
  iapply (bigSep_with_persistent (R := (reached ER (recvCell d) 0 : sProp 𝕄)) (Φ := fun q : Fin 4 => tileAny d c q) fun q _ => by
    iintro ⟨#Hr, H⟩; isplitl [H]; · iexact H
    iexact Hr)
  isplitr; · iexact Hr
  iexact H

end Cert.KernelIdeal.Talk

end
-- ==== Proof.KernelIdeal.Steps.lean ====
/-
# One block of the body at a time

Each block of the body at grid point `t` of device `c`: what it takes of the state and what it leaves.  The blocks are stated
with their guards, so that a block that is skipped leaves the state as the next one wants it.
-/
module

public import proofs.«01_k».proof.Proof.KernelIdeal.State

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ c none) Set.univ p Q

/-! ## The barrier -/

/-- The signal of device `k`, if it is another device. -/
theorem signal_step {α : Type} (Q : α → sProp 𝕄) (K : GSem nD τ sig → ℕ) (c k : Dev nD) (C : Prop) [Decidable C] (hC : C ↔ c ≠ k) (O : CellTallies nD τ sig Unit)
    (dev : C → Dev nD) (hdev : ∀ h, dev h = k) (kk : Prog (TpuEff nD τ sig (Elt F) Λ₀ .tc) α) :
    iprop(invs m K ∗ reached ER (recvCell c) 0 ∗ barSt c k.val ∗ owesE c (O + barOwed c k.val)
        ∗ (barSt c (k.val + 1) ∗ owesE c (O + barOwed c (k.val + 1)) -∗ wpc c kk Q))
      ⊢ wpc c (if h : C then do semSignalWord (dev h : Dev nD) barS 1#32; kk else kk) Q := by
  by_cases h : C
  · rw [dif_pos h, hdev h, bar_step c k (hC.mp h), barOwed_step c k (hC.mp h), ← add_assoc]
    unfold owesE sigOne
    simp only [semSignalWord, Prog.lift, Prog.bind_op, Prog.bind_ret]
    rw [show (1#32 : BitVec 32).toInt = ((1 : ℕ) : Int) from rfl]
    iintro ⟨#HI, #HrR, ⟨⟨⟨Htok, #Hr⟩, Hd⟩, Hb⟩, ⟨%W, HO⟩, Hk⟩
    iapply (Rounds.wp_signal 𝒱₀ ER (talkRd m) (c : Thread nD τ) none (dst := (k : Thread nD τ)) (sem := barS) (r := 0) (d := (c, 0)) (κ := K (barCell k))
        (by rw [duties_bar]; exact Finset.mem_map.mpr ⟨c, Finset.mem_erase.mpr ⟨hC.mp h, Finset.mem_univ _⟩, rfl⟩)
        (amount_bar m k 0 (c, 0)) () (O + barOwed c (k.val + 1)) rfl) $$ [HO Htok Hd]
    · isplitr; · iapply (inv_at m K (bar_mem k)); iexact HI
      isplitl [HO]; · iexact HO
      isplitl [Htok]; · iexact Htok
      isplitl [Hd]
      · rw [payload_bar]; unfold barPay
        isplitl [Hd]; · iexact Hd
        iexact HrR
      · iexact Hr
    iintro HO
    iapply Hk
    isplitl [Hb]; · iexact Hb
    iexists W; iexact HO
  · rw [dif_neg h, bar_skip c k (not_not.mp (mt hC.mpr h)), barOwed_skip c k (not_not.mp (mt hC.mpr h))]
    iintro ⟨-, -, Hb, HO, Hk⟩
    iapply Hk
    isplitl [Hb] <;> iassumption

/-- The barrier wait: all three units in, the cell is closed at once. -/
theorem barWait_step {α : Type} (Q : α → sProp 𝕄) (K : GSem nD τ sig → ℕ) (c : Dev nD) (kk : Prog (TpuEff nD τ sig (Elt F) Λ₀ .tc) α) :
    iprop(invs m K ∗ levAts L lv ∗ atPos ER (barCell c) 0 ∅ 0 ∗ cred (tallyAt (barCell c) () 3) ∗ owesE c (recvOwed c 0)
        ∗ (semVal (barCell c) 0 ∗ dstSt c 0 ∗ owesE c (recvOwed c 0) -∗ wpc c kk Q))
      ⊢ wpc c (do semWaitWord barS 3#32; kk) Q := by
  unfold owesE
  simp only [semWaitWord, Prog.lift, Prog.bind_op, Prog.bind_ret]
  rw [show (3#32 : BitVec 32).toInt = ((3 : ℕ) : Int) from rfl]
  iintro ⟨#HI, #Hlev, Hat, Hc, ⟨%W, HO⟩, Hk⟩
  iapply (Rounds.wp_wait_rest_token 𝒱₀ ER (talkRd m) (c : Thread nD τ) none (κ := K (barCell c))
      (wpE_semWait_eq 𝒱₀ (c : Thread nD τ) none Set.univ) (Set.mem_univ _) () (O := recvOwed c 0) (W := W) (R := 0) (m := 0) (T := ∅)
      ((Nat.zero_add 3).trans (expect_bar m c).symm)) $$ [Hc HO Hat]
  · isplitr; · iapply (inv_at m K (bar_mem c)); iexact HI
    isplitl [Hc]; · iexact Hc
    isplitl [HO]; · iexact HO
    isplitr; · iapply (mayWait_bar c 0); iexact Hlev
    iexact Hat
  iintro ⟨HO, Hat, -, Hpay⟩
  ihave Hp := (Entails.of_eq (rest_bar m c)) $$ Hpay
  ihave Hd := (dst_intro c) $$ Hp
  imod (Rounds.cell_close ER (talkRd m) (κ := K (barCell c)) (g := barCell c) (Set.mem_univ _) id (bar_end m c)) $$ [Hat] with Hv
  · isplitr; · iapply (inv_at m K (bar_mem c)); iexact HI
    iexact Hat
  iapply Hk
  isplitl [Hv]; · iexact Hv
  isplitl [Hd]; · iexact Hd
  iexists _; iexact HO

/-! ## A slot: waiting for its last copy, and sending it -/

/-- From grid point 4 on, the copy that left the slot four points ago is waited for. -/
theorem slotWait_step {α : Type} (Q : α → sProp 𝕄) (K : GSem nD τ sig → ℕ) (c : Dev nD) {t : ℕ} (ht : t < 16) (C : Prop) [Decidable C] (hC : C ↔ 4 ≤ t)
    {off : C → Fin 1 → ℕ} (hoff : ∀ h, off h = ![(quarter t).val]) (ib : ∀ h, ∀ a, off h a + S1.size a ≤ S4.size a)
    {s s' : C → Memref sig .tc .vmem S1024x512 .f32} (hs' : ∀ h, (s' h).view.dmaCredit = N)
    (h1 : ∀ h, (s h).view.WordExact) (h2 : ∀ h, (s' h).view.WordExact)
    (kk : Prog (TpuEff nD τ sig (Elt F) Λ₀ .tc) α) :
    iprop(invs m K ∗ levAts L lv ∗ slotSt c (quarter t) (t / 4) ∗ owesE c (recvOwed c t)
        ∗ (slotAny c (quarter t) ∗ sendGh c (quarter t) (t / 4) ∗ owesE c (recvOwed c t) -∗ wpc c kk Q))
      ⊢ wpc c (if h : C then do
          Prog.lift (.waitDma2 (((cc0_scratch1.slice (Rect.unit (s := S4) (off h) S1.size (ib h))).squeeze S_ squeezes_S1_S_).sem) (s h) (s' h) (h1 h) (h2 h))
          kk else kk) Q := by
  by_cases h : C
  · have h4 : 4 ≤ t := hC.mp h
    obtain ⟨j, hj⟩ : ∃ j, t / 4 = j + 1 := ⟨t / 4 - 1, by omega⟩
    have hj3 : j < 3 := by omega
    have ho : owedAt c t = recvOwed c t := by unfold owedAt; rw [if_neg (by omega)]
    have e := hoff h
    have hsem : ((cc0_scratch1.slice (Rect.unit (s := S4) (off h) S1.size (ib h))).squeeze S_ squeezes_S1_S_).sem = sendS (quarter t) := by
      generalize ib h = ibh
      revert ibh
      rw [e]; intro _; rfl
    rw [dif_pos h, hsem, hj]
    unfold owesE slotSt slotBusy
    rw [if_neg (by omega), if_pos (by omega), Nat.add_sub_cancel]
    simp only [Prog.lift, Prog.bind_op, Prog.bind_ret]
    iintro ⟨#HI, #Hlev, ⟨Hc, Hat, Htok⟩, ⟨%W, HO⟩, Hk⟩
    iapply (Rounds.wp_wait_rest_token 𝒱₀ ER (talkRd m) (c : Thread nD τ) none (κ := K (sendCell c (quarter t)))
        (wpE_waitDma2_eq 𝒱₀ (c : Thread nD τ) none Set.univ) (Set.mem_univ _) () (O := recvOwed c t) (W := W) (R := j) (m := 0) (T := ∅)
        (by rw [Nat.zero_add, expect_send m c _ hj3]; exact hs' h)) $$ [Hc HO Hat]
    · isplitr; · iapply (inv_at m K (send_mem c (quarter t))); iexact HI
      isplitl [Hc]; · rw [hs' h]; iexact Hc
      isplitl [HO]; · iexact HO
      isplitr; · rw [← ho]; iapply (mayWait_dma c t (sendS (quarter t)) (send_ne_recv _)); iexact Hlev
      iexact Hat
    iintro ⟨HO, Hat, #Hr, Hpay⟩
    ihave Hs := (Entails.of_eq (rest_send m c (quarter t) hj3)) $$ Hpay
    unfold sendGh
    by_cases h3 : j + 1 < 3
    · rw [if_pos h3]
      iapply Hk
      isplitl [Hs]; · iexact Hs
      isplitl [Hat Htok]
      · isplitl [Hat]; · iexact Hat
        isplitr; · iexact Hr
        iexact Htok
      iexists _; iexact HO
    · rw [if_neg h3]
      obtain rfl : j = 2 := by omega
      imod (Rounds.cell_close ER (talkRd m) (κ := K (sendCell c (quarter t))) (g := sendCell c (quarter t)) (Set.mem_univ _) id (send_end m c _)) $$ [Hat] with Hv
      · isplitr; · iapply (inv_at m K (send_mem c (quarter t))); iexact HI
        iexact Hat
      iapply Hk
      isplitl [Hs]; · iexact Hs
      isplitl [Hv]; · iexact Hv
      iexists _; iexact HO
  · have h4 : t / 4 = 0 := by have := mt hC.mpr h; omega
    rw [dif_neg h, h4]
    unfold slotSt
    rw [if_pos rfl]
    iintro ⟨-, -, ⟨Hs, Hg⟩, HO, Hk⟩
    iapply Hk
    isplitl [Hs]; · iexact Hs
    isplitl [Hg] <;> iassumption

end Cert.KernelIdeal.Talk

end
-- ==== Proof.KernelIdeal.Memory.lean ====
/-
# Tiles and slots: contents, loads and the store
-/
module

public import proofs.«01_k».proof.Proof.KernelIdeal.Steps

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents of a tile -/

/-- An element of device `e`'s result under the tile of device `d`, quarter `q`, ends as that tile's element. -/
theorem outFinal_tile (e d : Dev nD) (q : Fin 4) (j : S1024x512.Idx) :
    outFinal m e ((tileM d q).view.emb j) = tileVal m d (4 * e.val + q.val) j := by
  have hj0 : (j 0).val < 1024 := (j 0).isLt
  have hj1 : (j 1).val < 512 := (j 1).isLt
  have h0 : ((tileM d q).view.emb j 0).val = 1024 * d.val + (j 0).val := by
    show 1024 * d.val + 1 * (j 0).val = _; omega
  have h1 : ((tileM d q).view.emb j 1).val = 512 * q.val + (j 1).val := by
    show 512 * q.val + 1 * (j 1).val = _; omega
  have hd : d.val < 4 := d.isLt
  have e1 : (⟨((tileM d q).view.emb j 0).val / 1024 % 4, Nat.mod_lt _ (by decide)⟩ : Dev nD) = d := Fin.ext (by
    show ((tileM d q).view.emb j 0).val / 1024 % 4 = d.val
    rw [h0]; omega)
  have e2 : ((tileM d q).view.emb j 1).val / 512 = q.val := by rw [h1]; omega
  have e3 : (ix2 ⟨((tileM d q).view.emb j 0).val % 1024, Nat.mod_lt _ (by decide)⟩
      ⟨((tileM d q).view.emb j 1).val % 512, Nat.mod_lt _ (by decide)⟩ : S1024x512.Idx) = j := by
    refine funext fun a => Fin.ext ?_
    fin_cases a
    · show ((tileM d q).view.emb j 0).val % 1024 = (j 0).val
      rw [h0]; omega
    · show ((tileM d q).view.emb j 1).val % 512 = (j 1).val
      rw [h1]; omega
  unfold outFinal
  rw [e1, e2, e3]

/-- A landing of the tile's value fills the tile. -/
theorem tile_landed (e d : Dev nD) (q : Fin 4) (fd : Buf (Elt F) ((e : Thread nD τ).loc main_v15)) (v : Vec F S1024x512 .f32)
    (hv : v = tileVal m d (4 * e.val + q.val)) :
    ((tileM d q).view.loc (e : Thread nD τ) ↦[(tileM d q).view.set]{fullShare} ((tileM d q).view.write (Elt F) fd v Finset.univ) : sProp 𝕄)
      ⊢ tileDone m e d q := by
  unfold tileDone tilePts
  refine Entails.of_eq (pointsTo_congr fun i hi => ?_)
  obtain ⟨j, -, rfl⟩ := Finset.mem_image.mp (show i ∈ Finset.univ.image (tileM d q).view.emb from by simpa [View.set] using hi)
  refine (View.write_emb_of_mem (v := (tileM d q).view) fd v (Finset.mem_univ j)).trans ?_
  rw [hv]
  exact (outFinal_tile m e d q j).symm

/-- A slot just stored into reads as the stored tile, its leading axis of one dropped. -/
theorem slot_stored (s : Fin 4) (f : cc0_scratch0.ty.Contents (Elt F)) (w : Vec F S1x1024x512 .f32) :
    (slotM s).view.read (Elt F)
        ((scrM.access (Rect.unit (s := S4x1024x512) ![s.val, 0, 0] S1x1024x512.size (slot_inb s))).write (Elt F) f w Finset.univ)
      = shapeCast S1024x512 w squeezes_S1x1024x512_S1024x512.numel_eq := by
  refine (Memref.read_squeeze_slice scrM (Rect.unit (s := S4x1024x512) ![s.val, 0, 0] S1x1024x512.size (slot_inb s)) (fun _ => rfl)
    squeezes_S1x1024x512_S1024x512 squeezes_S1x1024x512_S1024x512.numel_eq _).trans ?_
  refine congrArg (fun u => shapeCast S1024x512 u squeezes_S1x1024x512_S1024x512.numel_eq) ?_
  exact View.read_write_univ _ _

theorem slot_set (s : Fin 4) :
    (scrM.access (Rect.unit (s := S4x1024x512) ![s.val, 0, 0] S1x1024x512.size (slot_inb s))).set = (slotM s).view.set :=
  (View.set_reshape _ _).symm

/-! ## Loads and the store -/

/-- A load of a whole staging buffer. -/
theorem load_step {α : Type} (Q : α → sProp 𝕄) (c : Dev nD) {s : Shape} {e : EltTy} (M : Memref sig .tc .vmem s e) (X : s.Idx → Elt F e)
    {off : Fin s.rank → ℕ} (hz : off = fun _ => 0) (inb : ∀ a, off a + s.size a ≤ s.size a)
    (hl : M.view.LoadsAt (Rect.unit off s.size inb).toLoadRect)
    (k : (s.Idx → Elt F e) → Prog (TpuEff nD τ sig (Elt F) Λ₀ .tc) α) :
    iprop(owns (c : Thread nD τ) M fullShare X ∗ (owns (c : Thread nD τ) M fullShare X -∗ wpc c (k X) Q))
      ⊢ wpc c (Prog.lift (.load M (Rect.unit off s.size inb).toLoadRect hl) >>= k) Q := by
  subst hz
  unfold owns
  have hr (f : Buf (Elt F) (M.view.loc (c : Thread nD τ))) : M.view.readAt (Elt F) (Rect.unit (fun _ => 0) s.size inb).toLoadRect f = M.view.read (Elt F) f := by
    exact View.ld_unit_zero rfl inb _
  iintro ⟨⟨%f, %hf, H⟩, Hk⟩
  simp only [Prog.lift, Prog.bind_op, Prog.bind_ret]
  iapply (wp_load 𝒱₀ c none Set.univ (m := M) (r := (Rect.unit (fun _ => 0) s.size inb).toLoadRect)
    (hS := M.view.setOn_subset_set _)) $$ H
  iintro H
  rw [hr f, hf]
  iapply Hk
  iexists f
  isplitr; · ipureintro; exact hf
  iexact H

end Cert.KernelIdeal.Talk

end
-- ==== Proof.KernelIdeal.Copies.lean ====
/-
# The slot's store and the copies out of it
-/
module

public import proofs.«01_k».proof.Proof.KernelIdeal.Memory

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slot: the load before the store, and the store -/

/-- The body reads the slot before it writes it; what it reads is not used. -/
theorem slotLoad_step {α : Type} (Q : α → sProp 𝕄) (c : Dev nD) (s : Fin 4) {off : Fin 3 → ℕ} (hoff : off = ![s.val, 0, 0])
    (inb : ∀ a, off a + S1x1024x512.size a ≤ S4x1024x512.size a)
    (hl : scrM.view.LoadsAt (Rect.unit (s := S4x1024x512) off S1x1024x512.size inb).toLoadRect)
    (kk : Prog (TpuEff nD τ sig (Elt F) Λ₀ .tc) α) :
    iprop(slotAny c s ∗ (slotAny c s -∗ wpc c kk Q))
      ⊢ wpc c (Prog.lift (.load scrM (Rect.unit (s := S4x1024x512) off S1x1024x512.size inb).toLoadRect hl) >>= fun _ => kk) Q := by
  subst hoff
  have key (f : cc0_scratch0.ty.Contents (Elt F)) := wp_load_rect (Val := Elt F) (defs := defs₀ (F := F)) (Γ := []) 𝒱₀ (c : Thread nD τ) none
    Set.univ (m := scrM) (r := Rect.unit (s := S4x1024x512) ![s.val, 0, 0] S1x1024x512.size inb) (hl := hl) (k := fun _ => kk) (Q := Q)
    (S := (slotM s).view.set) (q := fullShare) (f := f) (slot_set s).le
  unfold slotAny slotPts
  iintro ⟨⟨%f, H⟩, Hk⟩
  ihave G := (key f) $$ H
  iapply G
  iintro H
  iapply Hk
  iexists f; iexact H

/-- The store of a tile into its slot. -/
theorem slotStore_step {α : Type} (Q : α → sProp 𝕄) (c : Dev nD) (s : Fin 4) {off : Fin 3 → ℕ} (hoff : off = ![s.val, 0, 0])
    (inb : ∀ a, off a + S1x1024x512.size a ≤ S4x1024x512.size a) (w : Vec F S1x1024x512 .f32)
    (hx : (scrM.access (Rect.unit (s := S4x1024x512) off S1x1024x512.size inb)).Stores Finset.univ)
    (hm : (Finset.univ : Finset (Rect.unit (s := S4x1024x512) off S1x1024x512.size inb).shape.Idx) = Finset.univ
      ∨ ∀ a, (Rect.unit (s := S4x1024x512) off S1x1024x512.size inb).stride a = 1)
    (kk : Prog (TpuEff nD τ sig (Elt F) Λ₀ .tc) α) :
    iprop(slotAny c s ∗ (slotAt c s (shapeCast S1024x512 w squeezes_S1x1024x512_S1024x512.numel_eq) -∗ wpc c kk Q))
      ⊢ wpc c (Prog.lift (.store scrM (Rect.unit (s := S4x1024x512) off S1x1024x512.size inb) w Finset.univ hx hm) >>= fun _ => kk) Q := by
  subst hoff
  have key (f : cc0_scratch0.ty.Contents (Elt F)) := wp_store (Val := Elt F) (defs := defs₀ (F := F)) (Γ := []) 𝒱₀ (c : Thread nD τ) none
    Set.univ (m := scrM) (r := Rect.unit (s := S4x1024x512) ![s.val, 0, 0] S1x1024x512.size inb) (w := w) (Mk := Finset.univ) (hx := hx) (hm := hm)
    (k := fun _ => kk) (Q := Q) (S := (slotM s).view.set) (f := f) (slot_set s).le
  unfold slotAny slotAt slotPts
  iintro ⟨⟨%f, H⟩, Hk⟩
  ihave G := (key f) $$ H
  iapply G
  iintro H
  iapply Hk
  iexists _
  isplitr; · ipureintro; exact slot_stored s f w
  iexact H

/-! ## The copies -/

theorem slotPts_any (c : Dev nD) (s : Fin 4) (f : cc0_scratch0.ty.Contents (Elt F)) : slotPts (F := F) c s f ⊢ slotAny c s := by
  unfold slotAny
  iintro H
  iexists f; iexact H

/-- Before grid point 12: the remote copy of the slot into the peer's result. -/
theorem send_step {α : Type} (Q : α → sProp 𝕄) (K : GSem nD τ sig → ℕ) (c : Dev nD) {t : ℕ} (ht : t < 16) (C : Prop) [Decidable C]
    (hC : C ↔ t < 12) (v : Vec F S1024x512 .f32) (hv : v = tileVal m c (colBlock c t))
    {off6 : C → Fin 1 → ℕ} (h6 : ∀ h, off6 h = ![(quarter t).val]) (ib6 : ∀ h, ∀ a, off6 h a + S1.size a ≤ S4.size a)
    {off7 : C → Fin 2 → ℕ} (h7 : ∀ h, off7 h = ![1024 * c.val, 512 * (quarter t).val]) (ib7 : ∀ h, ∀ a, off7 h a + S1024x512.size a ≤ S4096x2048.size a)
    {off8 : C → Fin 3 → ℕ} (h8 : ∀ h, off8 h = ![(quarter t).val, 0, 0]) (ib8 : ∀ h, ∀ a, off8 h a + S1x1024x512.size a ≤ S4x1024x512.size a)
    {dev : C → Dev nD} (hdev : ∀ h, dev h = peer c t)
    {p1 : ∀ h, (((scrM.slice (Rect.unit (s := S4x1024x512) (off8 h) S1x1024x512.size (ib8 h)) (fun _ => rfl)).squeeze S1024x512
      squeezes_S1x1024x512_S1024x512).view).WordExact}
    {p2 : ∀ h, (outM.slice (Rect.unit (s := S4096x2048) (off7 h) S1024x512.size (ib7 h)) (fun _ => rfl)).view.WordExact}
    {p3 : ∀ h, DmaTarget.Typed .vmem (.dma recvS) (.remote (Dev.tc (dev h))
      (outM.slice (Rect.unit (s := S4096x2048) (off7 h) S1024x512.size (ib7 h)) (fun _ => rfl))
      (.dma ((cc0_scratch1.slice (Rect.unit (s := S4) (off6 h) S1.size (ib6 h))).squeeze S_ squeezes_S1_S_).sem))}
    (kk : Prog (TpuEff nD τ sig (Elt F) Λ₀ .tc) α) :
    iprop(invs m K ∗ slotAt c (quarter t) v ∗ sendGh c (quarter t) (t / 4) ∗ dstSt c t ∗ sendToks c t ∗ owesE c (recvOwed c t)
        ∗ ((if t < 12 then slotSt c (quarter t) (t / 4 + 1) else iprop(slotAt c (quarter t) v ∗ sendGh c (quarter t) (t / 4)))
            ∗ dstSt c (t + 1) ∗ sendToks c (t + 1) ∗ owesE c (recvOwed c (t + 1)) -∗ wpc c kk Q))
      ⊢ wpc c (if h : C then do
          Prog.lift (.enqueueDma ((scrM.slice (Rect.unit (s := S4x1024x512) (off8 h) S1x1024x512.size (ib8 h)) (fun _ => rfl)).squeeze S1024x512
              squeezes_S1x1024x512_S1024x512)
            (.remote (Dev.tc (dev h)) (outM.slice (Rect.unit (s := S4096x2048) (off7 h) S1024x512.size (ib7 h)) (fun _ => rfl))
              (.dma ((cc0_scratch1.slice (Rect.unit (s := S4) (off6 h) S1.size (ib6 h))).squeeze S_ squeezes_S1_S_).sem))
            (.dma recvS) (p1 h) (p2 h) (p3 h))
          kk else kk) Q := by
  by_cases h : C
  · have h12 : t < 12 := hC.mp h
    rw [dif_pos h, if_pos h12]
    generalize p1 h = p1h; generalize p2 h = p2h; generalize p3 h = p3h
    revert p1h p2h p3h
    generalize ib6 h = ib6h; generalize ib7 h = ib7h; generalize ib8 h = ib8h
    revert ib6h ib7h ib8h
    generalize e6 : off6 h = o6; generalize e7 : off7 h = o7; generalize e8 : off8 h = o8; generalize ed : dev h = dd
    obtain rfl := e6.symm.trans (h6 h); obtain rfl := e7.symm.trans (h7 h); obtain rfl := e8.symm.trans (h8 h)
    obtain rfl := ed.symm.trans (hdev h)
    intro ib6h ib7h ib8h p1h p2h p3h
    rw [dst_step c h12, toks_step c h12, recvOwed_step c h12]
    unfold owesE slotAt slotPts sendGh slotSt slotBusy dstOne tileAny tilePts
    rw [if_pos (show t / 4 < 3 by omega), Ico_step (show t / 4 < 3 by omega), if_neg (show ¬ t / 4 + 1 = 0 by omega),
      if_pos (show t / 4 + 1 < 4 by omega), Nat.add_sub_cancel]
    simp only [Prog.lift, Prog.bind_op, Prog.bind_ret]
    iintro ⟨#HI, ⟨%f, %hf, Hs⟩, ⟨Hat, #Hr, Htk, Htks⟩, ⟨⟨⟨%fd, Hd⟩, #HrP⟩, Hds⟩, ⟨Ht, Hts⟩, ⟨%W, HO⟩, Hk⟩
    iapply (Rounds.wp_send_pointsTo 𝒱₀ ER (talkRd m) (c : Thread nD τ) none (c' := (peer c t : Thread nD τ)) (src := slotM (quarter t)) (dst := tileM c (quarter t))
        (sS := .dma (sendS (quarter t))) (sem := .dma recvS) (q := fullShare) (fs := f) (fd := fd) (κ₁ := K (sendCell c (quarter t))) (κ₂ := K (recvCell (peer c t)))
        (r₁ := t / 4) (r₂ := 0) (d₁ := (c, 0)) (d₂ := (c, quarter t))
        (by rw [duties_send m c _ (show t / 4 < 3 by omega)]; exact Finset.mem_singleton_self _)
        (by rw [duties_recv]; exact Finset.mem_product.mpr ⟨Finset.mem_erase.mpr ⟨(peer_ne c h12).symm, Finset.mem_univ _⟩, Finset.mem_univ _⟩)
        () () N rfl (amount_dma m c _ _ _) (amount_dma m (peer c t) _ _ _) (recvOwed c (t + 1)) rfl (W := W)
        (by rw [payload_send]; exact slotPts_any c (quarter t) f)
        (by rw [payload_recv]; exact tile_landed m (peer c t) c (quarter t) fd _ (hf.trans hv))) $$ [Hs Hd HO Htk Ht]
    · isplitr; · iapply (inv_at m K (send_mem c (quarter t))); iexact HI
      isplitr; · iapply (inv_at m K (recv_mem (peer c t))); iexact HI
      isplitl [Hs]; · iexact Hs
      isplitl [Hd]; · iexact Hd
      isplitl [HO]; · iexact HO
      isplitl [Htk]; · iexact Htk
      isplitr; · iexact Hr
      isplitl [Ht]; · iexact Ht
      iexact HrP
    iintro ⟨Hc, HO⟩
    iapply Hk
    isplitl [Hc Hat Htks]
    · isplitl [Hc]; · iexact Hc
      isplitl [Hat]; · iexact Hat
      iexact Htks
    isplitl [Hds]; · iexact Hds
    isplitl [Hts]; · iexact Hts
    iexists W; iexact HO
  · have h12 : ¬ t < 12 := mt hC.mpr h
    rw [dif_neg h, if_neg h12, dst_late c (not_lt.mp h12), dst_late c (show 12 ≤ t + 1 by omega), toks_late c (not_lt.mp h12),
      toks_late c (show 12 ≤ t + 1 by omega), recvOwed_late c (not_lt.mp h12), recvOwed_late c (show 12 ≤ t + 1 by omega)]
    iintro ⟨-, Hs, Hg, -, -, HO, Hk⟩
    iapply Hk
    isplitl [Hs Hg]; · isplitl [Hs] <;> iassumption
    isplitr; · iempintro
    isplitr; · iempintro
    iexact HO

/-- From grid point 12 on: the copy of the slot into the device's own result, and the wait for it. -/
theorem local_step {α : Type} (Q : α → sProp 𝕄) (K : GSem nD τ sig → ℕ) (c : Dev nD) {t : ℕ} (ht : t < 16) (C : Prop) [Decidable C]
    (hC : C ↔ 12 ≤ t) (v : Vec F S1024x512 .f32) (hv : v = tileVal m c (colBlock c t))
    {off9 : C → Fin 2 → ℕ} (h9 : ∀ h, off9 h = ![1024 * c.val, 512 * (quarter t).val]) (ib9 : ∀ h, ∀ a, off9 h a + S1024x512.size a ≤ S4096x2048.size a)
    {off10 : C → Fin 3 → ℕ} (h10 : ∀ h, off10 h = ![(quarter t).val, 0, 0]) (ib10 : ∀ h, ∀ a, off10 h a + S1x1024x512.size a ≤ S4x1024x512.size a)
    {p1 : ∀ h, (((scrM.slice (Rect.unit (s := S4x1024x512) (off10 h) S1x1024x512.size (ib10 h)) (fun _ => rfl)).squeeze S1024x512
      squeezes_S1x1024x512_S1024x512).view).WordExact}
    {p2 : ∀ h, (outM.slice (Rect.unit (s := S4096x2048) (off9 h) S1024x512.size (ib9 h)) (fun _ => rfl)).view.WordExact}
    {p3 : ∀ h, DmaTarget.Typed (nD := nD) (p := Proc.tc) .vmem (.dma locS) (.here
      (outM.slice (Rect.unit (s := S4096x2048) (off9 h) S1024x512.size (ib9 h)) (fun _ => rfl)))}
    {p4 : ∀ h, (((scrM.slice (Rect.unit (s := S4x1024x512) (off10 h) S1x1024x512.size (ib10 h)) (fun _ => rfl)).squeeze S1024x512
      squeezes_S1x1024x512_S1024x512).view).WordExact}
    {p5 : ∀ h, (outM.slice (Rect.unit (s := S4096x2048) (off9 h) S1024x512.size (ib9 h)) (fun _ => rfl)).view.WordExact}
    (kk : Prog (TpuEff nD τ sig (Elt F) Λ₀ .tc) α) :
    iprop(invs m K ∗ (if t < 12 then slotSt c (quarter t) (t / 4 + 1) else iprop(slotAt c (quarter t) v ∗ sendGh c (quarter t) (t / 4)))
        ∗ ownSt m c (t - 12) ∗ locSt c (t - 12) ∗ owesE c (recvOwed c (t + 1))
        ∗ (slotSt c (quarter t) (t / 4 + 1) ∗ ownSt m c (t + 1 - 12) ∗ locSt c (t + 1 - 12) ∗ owesE c (recvOwed c (t + 1)) -∗ wpc c kk Q))
      ⊢ wpc c (if h : C then do
          Prog.lift (.enqueueDma ((scrM.slice (Rect.unit (s := S4x1024x512) (off10 h) S1x1024x512.size (ib10 h)) (fun _ => rfl)).squeeze S1024x512
              squeezes_S1x1024x512_S1024x512)
            (.here (outM.slice (Rect.unit (s := S4096x2048) (off9 h) S1024x512.size (ib9 h)) (fun _ => rfl)))
            (.dma locS) (p1 h) (p2 h) (p3 h))
          Prog.lift (.waitDma2 locS ((scrM.slice (Rect.unit (s := S4x1024x512) (off10 h) S1x1024x512.size (ib10 h)) (fun _ => rfl)).squeeze S1024x512
              squeezes_S1x1024x512_S1024x512)
            (outM.slice (Rect.unit (s := S4096x2048) (off9 h) S1024x512.size (ib9 h)) (fun _ => rfl)) (p4 h) (p5 h))
          kk else kk) Q := by
  by_cases h : C
  · have h12 : 12 ≤ t := hC.mp h
    obtain ⟨k, rfl⟩ : ∃ k, t = k + 12 := ⟨t - 12, by omega⟩
    have hk : k < 4 := by omega
    have hq : quarter (k + 12) = quarter k := Fin.ext (Nat.add_mod_right k 4 |>.trans rfl |> fun _ => by show (k + 12) % 4 = k % 4; omega)
    have hcol : colBlock c (k + 12) = 4 * c.val + (quarter k).val := by
      unfold colBlock; rw [peer_self c (by omega) ht, hq]
    rw [dif_pos h, if_neg (show ¬ k + 12 < 12 by omega), recvOwed_late c (show 12 ≤ k + 12 + 1 by omega),
      show k + 12 - 12 = k by omega, show k + 12 + 1 - 12 = k + 1 by omega, show (k + 12) / 4 = 3 by omega]
    generalize p1 h = p1h; generalize p2 h = p2h; generalize p3 h = p3h; generalize p4 h = p4h; generalize p5 h = p5h
    revert p1h p2h p3h p4h p5h
    generalize ib9 h = ib9h; generalize ib10 h = ib10h
    revert ib9h ib10h
    generalize e9 : off9 h = o9; generalize e10 : off10 h = o10
    obtain rfl := e9.symm.trans (h9 h); obtain rfl := e10.symm.trans (h10 h)
    rw [hq]
    intro ib9h ib10h p1h p2h p3h p4h p5h
    unfold owesE slotAt slotPts slotSt
    rw [if_neg (show ¬ 3 + 1 = 0 by omega), if_neg (show ¬ 3 + 1 < 4 by omega)]
    simp only [Prog.lift, Prog.bind_op, Prog.bind_ret]
    iintro ⟨#HI, ⟨⟨%f, %hf, Hs⟩, Hg⟩, Hown, Hloc, ⟨%W, HO⟩, Hk⟩
    ihave Ho := (own_step m c hk) $$ Hown
    icases Ho with ⟨Hd, Hback⟩
    ihave Hl := (Entails.of_eq (show (locSt c k : sProp 𝕄) = iprop(atPos ER (locCell c) k ∅ 0 ∗ reached ER (locCell c) k
        ∗ dutyTok ER (locCell c) k (c, 0) ∗ bigSep (Finset.Ico (k + 1) 4) fun r => dutyTok ER (locCell c) r (c, 0)) from by
      unfold locSt; rw [if_pos hk, Ico_step hk])) $$ Hloc
    icases Hl with ⟨Hat, #Hr, Htk, Htks⟩
    unfold tileAny tilePts
    icases Hd with ⟨%fd, Hd⟩
    iapply (Rounds.wp_copy_pointsTo 𝒱₀ ER (talkRd m) (c : Thread nD τ) none (src := slotM (quarter k)) (dst := tileM c (quarter k)) (sem := .dma locS)
        (q := fullShare) (fs := f) (fd := fd) (r := k) (d := (c, 0)) (κ := K (locCell c))
        (by rw [duties_loc m c hk]; exact Finset.mem_singleton_self _) () N rfl (amount_dma m c _ _ _)
        (by
          rw [payload_loc]
          refine BI.sep_mono (tile_landed m c c (quarter k) fd _ (hf.trans (hv.trans (by rw [hcol])))) ?_
          exact slotPts_any c (quarter k) f)) $$ [Hs Hd Htk]
    · isplitr; · iapply (inv_at m K (loc_mem c)); iexact HI
      isplitl [Hs]; · iexact Hs
      isplitl [Hd]; · iexact Hd
      isplitl [Htk]; · iexact Htk
      iexact Hr
    iintro Hc
    iapply (Rounds.wp_wait_rest_token 𝒱₀ ER (talkRd m) (c : Thread nD τ) none (κ := K (locCell c))
        (wpE_waitDma2_eq 𝒱₀ (c : Thread nD τ) none Set.univ) (Set.mem_univ _) () (O := 0) (W := W) (R := k) (m := 0) (T := ∅)
        (by rw [Nat.zero_add, expect_loc m c hk]; exact N_tile c (quarter k))) $$ [Hc HO Hat]
    · isplitr; · iapply (inv_at m K (loc_mem c)); iexact HI
      isplitl [Hc]; · iexact Hc
      isplitl [HO]; · iexact HO
      isplitr; · rw [MayWait_zero]; iempintro
      iexact Hat
    iintro ⟨HO, Hat, #Hr', Hpay⟩
    ihave Hp := (Entails.of_eq (rest_loc m c hk)) $$ Hpay
    icases Hp with ⟨Hdone, Hs⟩
    ihave Hown := Hback $$ Hdone
    by_cases h3 : k + 1 < 4
    · iapply Hk
      isplitl [Hs Hg]; · isplitl [Hs] <;> iassumption
      isplitl [Hown]; · iexact Hown
      isplitl [Hat Htks]
      · unfold locSt; rw [if_pos h3]
        isplitl [Hat]; · iexact Hat
        isplitr; · iexact Hr'
        iexact Htks
      iexists _; iexact HO
    · obtain rfl : k = 3 := by omega
      imod (Rounds.cell_close ER (talkRd m) (κ := K (locCell c)) (g := locCell c) (Set.mem_univ _) id (loc_end m c)) $$ [Hat] with Hv
      · isplitr; · iapply (inv_at m K (loc_mem c)); iexact HI
        iexact Hat
      iapply Hk
      isplitl [Hs Hg]; · isplitl [Hs] <;> iassumption
      isplitl [Hown]; · iexact Hown
      isplitl [Hv]; · unfold locSt; rw [if_neg h3]; iexact Hv
      iexists _; iexact HO
  · have h12 : t < 12 := not_le.mp (mt hC.mpr h)
    rw [dif_neg h, if_pos h12, show t - 12 = 0 by omega, show t + 1 - 12 = 0 by omega]
    iintro ⟨-, Hs, Ho, Hl, HO, Hk⟩
    iapply Hk
    isplitl [Hs]; · iexact Hs
    isplitl [Ho]; · iexact Ho
    isplitl [Hl]; · iexact Hl
    iexact HO

end Cert.KernelIdeal.Talk

end
-- ==== Proof.KernelIdeal.Receive.lean ====
/-
# The waits for the twelve arriving tiles
-/
module

public import proofs.«01_k».proof.Proof.KernelIdeal.Copies

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One wait of the receive cell -/

theorem cred_recv (c : Dev nD) {k : ℕ} (hk : k < 12) :
    (cred (tallyAt (recvCell c) () ((12 - k) * N)) : sProp 𝕄)
      ⊢ iprop(cred (tallyAt (recvCell c) () N) ∗ cred (tallyAt (recvCell c) () ((12 - (k + 1)) * N))) := by
  have e : (12 - k) * N = N + (12 - (k + 1)) * N := by
    rw [show 12 - k = (12 - (k + 1)) + 1 by omega, Nat.succ_mul, Nat.add_comm]
  rw [e, ← tallyAt_add]
  exact (cred_add _ _).1

theorem join_done (c : Dev nD) {S T : Finset Duty} (h : S ⊆ T) :
    iprop((bigSep S fun dq => tileDone m c dq.1 dq.2) ∗ bigSep (T \ S) (fun d => (talkRd (F := F) m).payload (recvCell c) 0 d))
      ⊢ (bigSep T fun dq => tileDone m c dq.1 dq.2 : sProp 𝕄) := by
  rw [bigSep_congr (fun d _ => payload_recv m c 0 d)]
  exact Entails.of_eq (bigSep_sdiff_split h).symm

/-- One of the twelve waits at the last grid point. -/
theorem recv_step {α : Type} (Q : α → sProp 𝕄) (K : GSem nD τ sig → ℕ) (c : Dev nD) {k : ℕ} (hk : k < 12)
    {sp : Space} {s : Shape} {e : EltTy} {sp' : Space} {s' : Shape} {e' : EltTy}
    (src : Memref sig .tc sp s e) (dst : Memref sig .tc sp' s' e') (hN : dst.view.dmaCredit = N)
    (h1 : src.view.WordExact) (h2 : dst.view.WordExact) (kk : Prog (TpuEff nD τ sig (Elt F) Λ₀ .tc) α) :
    iprop(invs m K ∗ recvGot m c k ∗ owesE c 0 ∗ (recvGot m c (k + 1) ∗ owesE c 0 -∗ wpc c kk Q))
      ⊢ wpc c (Prog.lift (.waitDma2 recvS src dst h1 h2) >>= fun _ => kk) Q := by
  unfold recvGot owesE
  rw [if_pos hk]
  simp only [Prog.lift, Prog.bind_op, Prog.bind_ret]
  iintro ⟨#HI, ⟨%S, %hS, Hat, Hc, Hd⟩, ⟨%W, HO⟩, Hk⟩
  ihave Hc' := (cred_recv c hk) $$ Hc
  icases Hc' with ⟨Hc, Hc2⟩
  by_cases h11 : k + 1 < 12
  · rw [if_pos h11]
    iapply (Rounds.wp_wait 𝒱₀ ER (talkRd m) (c : Thread nD τ) none (κ := K (recvCell c))
        (wpE_waitDma2_eq 𝒱₀ (c : Thread nD τ) none Set.univ) (Set.mem_univ _) {(SemLoc.dma recvS, ())} (cr := Finsupp.single () N)
        (O := 0) (W := W) (R := 0) (m := k * N) (T := S) (by rw [Util.total_single]; exact hN.symm) (image_single_subset _ _ _)) $$ [Hc HO Hat]
    · isplitr; · iapply (inv_at m K (recv_mem c)); iexact HI
      isplitl [Hc]; · iexact Hc
      isplitl [HO]; · iexact HO
      isplitr; · iapply (Entails.of_eq (MayWait_zero (c : Thread nD τ) (SemLoc.dma recvS) ()).symm); iempintro
      iexact Hat
    iintro %S' ⟨%hS', HO, Hat, Hpay⟩
    iapply Hk
    isplitr [HO]
    · iexists S'
      isplitr; · ipureintro; rw [← duties_recv m c]; exact hS'.2.1
      isplitl [Hat]; · rw [hN, ← Nat.succ_mul]; iexact Hat
      isplitl [Hc2]; · iexact Hc2
      iapply (join_done m c hS'.1)
      isplitl [Hd] <;> iassumption
    iexists _; iexact HO
  · obtain rfl : k = 11 := by omega
    rw [if_neg h11]
    iapply (Rounds.wp_wait_rest_token 𝒱₀ ER (talkRd m) (c : Thread nD τ) none (κ := K (recvCell c))
        (wpE_waitDma2_eq 𝒱₀ (c : Thread nD τ) none Set.univ) (Set.mem_univ _) () (O := 0) (W := W) (R := 0) (m := 11 * N) (T := S)
        (by rw [expect_recv, hN, ← Nat.succ_mul])) $$ [Hc HO Hat]
    · isplitr; · iapply (inv_at m K (recv_mem c)); iexact HI
      isplitl [Hc]; · rw [hN]; iexact Hc
      isplitl [HO]; · iexact HO
      isplitr; · rw [MayWait_zero]; iempintro
      iexact Hat
    iintro ⟨HO, Hat, -, Hpay⟩
    imod (Rounds.cell_close ER (talkRd m) (κ := K (recvCell c)) (g := recvCell c) (Set.mem_univ _) id (recv_end m c)) $$ [Hat] with Hv
    · isplitr; · iapply (inv_at m K (recv_mem c)); iexact HI
      iexact Hat
    iapply Hk
    isplitr [HO]
    · isplitl [Hv]; · iexact Hv
      iapply (join_done m c hS)
      isplitl [Hd]; · iexact Hd
      rw [duties_recv m c]; iexact Hpay
    iexists _; iexact HO

end Cert.KernelIdeal.Talk

end
-- ==== Proof.KernelIdeal.Body.lean ====
/-
# The body, run at one grid point
-/
module

public import proofs.«01_k».proof.Proof.KernelIdeal.Receive

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The table's word -/

abbrev tabM : Memref sig .tc .smem S16 .i32 := Memref.whole main_v14

/-- The table held at the contents `V`. -/
def tab (c : Dev nD) (V : Buf (Elt F) ((c : Thread nD τ).loc main_v14)) : sProp 𝕄 :=
  iprop(tabM.view.loc (c : Thread nD τ) ↦{fullShare} V)

/-- The contents of the table: at each grid point, the column block that device `c` computes there. -/
def IsTable (c : Dev nD) (V : Buf (Elt F) ((c : Thread nD τ).loc main_v14)) : Prop :=
  ∀ j : S16.Idx, (V : IVec S16 32) j = BitVec.ofNat 32 (colBlock c (j 0).val)

theorem table_step {α : Type} (Q : α → sProp 𝕄) (c : Dev nD) {V : Buf (Elt F) ((c : Thread nD τ).loc main_v14)} (hV : IsTable c V)
    (i : grid0.Coords) {t : ℕ} (hi : (i 0).val = t) (k : Elt F .i32 → Prog (TpuEff nD τ sig (Elt F) Λ₀ .tc) α) :
    iprop(tab c V ∗ (tab c V -∗ wpc c (k (word c t)) Q))
      ⊢ wpc c (smemLoad tabM (Rect.unit (s := S16) (k0_off2 i) S1.size (k0_off2_inb i)) numel1_S1 rfl >>= k) Q := by
  have hf (j : S1.Idx) : (tabM.access (Rect.unit (s := S16) (k0_off2 i) S1.size (k0_off2_inb i))).read (Elt F) V j = word c t := by
    refine (hV _).trans ?_
    unfold word
    refine congrArg (fun n => BitVec.ofNat 32 (colBlock c n)) ?_
    show k0_off2 i 0 + 1 * (j 0).val = t
    have h0 : (j 0).val < 1 := (j 0).isLt
    have h := congrFun (k0_off2_eq i) 0
    have h' : k0_off2 i 0 = (i 0).val := h
    omega
  have key := wp_load_rect (Ix := Unit) (Name := ℕ) (U := UU) (Lvl := ℕ) (Q := Q) (Val := Elt F) (defs := defs₀ (F := F)) (Γ := []) 𝒱₀
    (c : Thread nD τ) none Set.univ (m := tabM) (r := Rect.unit (s := S16) (k0_off2 i) S1.size (k0_off2_inb i))
    (hl := View.loadsAt_rect (View.loads_smem_one rfl numel1_S1)) (k := fun f => k (f (Shape.Idx.first (numel1_S1.symm ▸ Nat.one_pos))))
    (S := Finset.univ) (q := fullShare) (f := V) (Finset.subset_univ _)
  rw [hf] at key
  unfold tab
  iintro ⟨H, Hk⟩
  ihave G := key $$ H
  iapply G
  iexact Hk

/-! ## The first half of the body -/

theorem device_step {α : Type} (Q : α → sProp 𝕄) (c : Dev nD) (k : Dev nD → Prog (TpuEff nD τ sig (Elt F) Λ₀ .tc) α) :
    wpc c (k c) Q ⊢ wpc c (Prog.lift .deviceId >>= k) Q := by
  simp only [Prog.lift, Prog.bind_op, Prog.bind_ret, wp_deviceId]
  exact .rfl

theorem assume_step {α : Type} (Q : α → sProp 𝕄) (c : Dev nD) {P : Prop} (d : Decidable P) (h : P)
    (k : PLift P → Prog (TpuEff nD τ sig (Elt F) Λ₀ .tc) α) :
    wpc c (k ⟨h⟩) Q ⊢ wpc c (Prog.lift (.assume P d) >>= k) Q := by
  simp only [Prog.lift, Prog.bind_op, Prog.bind_ret]
  exact wp_assume 𝒱₀ (c : Thread nD τ) none Set.univ h

theorem wp_ret_intro {α : Type} (Q : α → sProp 𝕄) (c : Dev nD) (a : α) : Q a ⊢ wpc c (pure a) Q := by
  show Q a ⊢ wp _ _ _ (.ret a) _
  rw [wp_ret]
  exact BI.fupd_intro

/-- The barrier of the first grid point; at the others there is nothing to do. -/
theorem barrier_step {α : Type} (Q : α → sProp 𝕄) (K : GSem nD τ sig → ℕ) (c : Dev nD) (i : grid0.Coords) {t : ℕ} (hi : (i 0).val = t)
    (kk : Prog (TpuEff nD τ sig (Elt F) Λ₀ .tc) α) :
    iprop(invs m K ∗ levAts L lv ∗ reached ER (recvCell c) 0 ∗ barrier c t ∗ owesE c (owedAt c t)
        ∗ (semVal (barCell c) 0 ∗ dstSt c t ∗ owesE c (recvOwed c t) -∗ wpc c kk Q))
      ⊢ wpc c (if b1 : k0_cond1 i = 1#1 then
          let w := semWaitWord barS 3#32 >>= fun _ => kk
          let w5 := if b : k0_cond5 c = 1#1 then semSignalWord (⟨k0_dev4, k0_dev4_lt i c b1 b⟩ : Dev nD) barS 1#32 >>= fun _ => w else w
          let w4 := if b : k0_cond4 c = 1#1 then semSignalWord (⟨k0_dev3, k0_dev3_lt i c b1 b⟩ : Dev nD) barS 1#32 >>= fun _ => w5 else w5
          let w3 := if b : k0_cond3 c = 1#1 then semSignalWord (⟨k0_dev2, k0_dev2_lt i c b1 b⟩ : Dev nD) barS 1#32 >>= fun _ => w4 else w4
          if b : k0_cond2 c = 1#1 then semSignalWord (⟨k0_dev1, k0_dev1_lt i c b1 b⟩ : Dev nD) barS 1#32 >>= fun _ => w3 else w3
        else kk) Q := by
  by_cases b1 : k0_cond1 i = 1#1
  · obtain rfl : t = 0 := hi.symm.trans ((cond1_iff i).mp b1)
    rw [dif_pos b1]
    dsimp only
    unfold barrier owedAt
    rw [if_pos rfl, if_pos rfl]
    iintro ⟨#HI, #Hlev, #HrR, ⟨Hat, Hc, Hb⟩, HO, Hk⟩
    iapply (signal_step m Q K c 0 (k0_cond2 c = 1#1) (cond2_iff c) (recvOwed c 0) (fun b => ⟨k0_dev1, k0_dev1_lt i c b1 b⟩) (fun _ => Fin.ext k0_dev1_eq))
    isplitr; · iexact HI
    isplitr; · iexact HrR
    isplitl [Hb]; · iexact Hb
    isplitl [HO]; · iexact HO
    iintro ⟨Hb, HO⟩
    iapply (signal_step m Q K c 1 (k0_cond3 c = 1#1) (cond3_iff c) (recvOwed c 0) (fun b => ⟨k0_dev2, k0_dev2_lt i c b1 b⟩) (fun _ => Fin.ext k0_dev2_eq))
    isplitr; · iexact HI
    isplitr; · iexact HrR
    isplitl [Hb]; · iexact Hb
    isplitl [HO]; · iexact HO
    iintro ⟨Hb, HO⟩
    iapply (signal_step m Q K c 2 (k0_cond4 c = 1#1) (cond4_iff c) (recvOwed c 0) (fun b => ⟨k0_dev3, k0_dev3_lt i c b1 b⟩) (fun _ => Fin.ext k0_dev3_eq))
    isplitr; · iexact HI
    isplitr; · iexact HrR
    isplitl [Hb]; · iexact Hb
    isplitl [HO]; · iexact HO
    iintro ⟨Hb, HO⟩
    iapply (signal_step m Q K c 3 (k0_cond5 c = 1#1) (cond5_iff c) (recvOwed c 0) (fun b => ⟨k0_dev4, k0_dev4_lt i c b1 b⟩) (fun _ => Fin.ext k0_dev4_eq))
    isplitr; · iexact HI
    isplitr; · iexact HrR
    isplitl [Hb]; · iexact Hb
    isplitl [HO]; · iexact HO
    iintro ⟨-, HO⟩
    iapply (barWait_step m Q K c kk)
    isplitr; · iexact HI
    isplitr; · iexact Hlev
    isplitl [Hat]; · iexact Hat
    isplitl [Hc]; · iexact Hc
    isplitl [HO]
    · iapply (Entails.of_eq (congrArg (fun O => (owesE c O : sProp 𝕄)) (show recvOwed c 0 + barOwed c 4 = recvOwed c 0 by rw [barOwed_four, add_zero])))
      iexact HO
    iexact Hk
  · have ht : ¬ t = 0 := fun h => b1 ((cond1_iff i).mpr (hi.trans h))
    rw [dif_neg b1]
    unfold barrier owedAt
    rw [if_neg ht, if_neg ht]
    iintro ⟨-, -, -, ⟨Hv, Hd⟩, HO, Hk⟩
    iapply Hk
    isplitl [Hv]; · iexact Hv
    isplitl [Hd] <;> iassumption

theorem part3_step (K : GSem nD τ sig → ℕ) (c : Dev nD) {V : Buf (Elt F) ((c : Thread nD τ).loc main_v14)} (hV : IsTable c V)
    (i : grid0.Coords) {t : ℕ} (hi : (i 0).val = t) (ht : t < 16)
    (M2 : Memref sig .tc .vmem S1024x4096 .f32) (h2 : M2.IsWhole) (M3 : Memref sig .tc .vmem S4096x512 .f32) (h3 : M3.IsWhole)
    (h1 : tabM.IsWhole) (h4 : outM.IsWhole) (h5 : scrM.IsWhole) (X : Vec F S1024x4096 .f32)
    (Q : (Σ' (arg0 : BitVec 32) (d0 : Dev nD) (v2 : BitVec 32) (v4 : Elt F .i32) (k0_hw2 : k0_chk2 i v4) (v21 : BitVec 32) (v23 : Elt F .i32)
      (k0_hw1 : k0_chk1 i d0 v23) (v24 : BitVec 32) (v25 : BitVec 32), FVec F S1024x4096 .f32) → sProp 𝕄) :
    iprop(invs m K ∗ levAts L lv ∗ reached ER (recvCell c) 0 ∗ barrier c t ∗ slotSt c (quarter t) (t / 4) ∗ owesE c (owedAt c t)
        ∗ tab c V ∗ owns (c : Thread nD τ) M2 fullShare X
        ∗ (∀ v2 : BitVec 32, ∀ v21 : BitVec 32, ∀ v24 : BitVec 32, ∀ v25 : BitVec 32,
            (semVal (barCell c) 0 ∗ dstSt c t ∗ slotAny c (quarter t) ∗ sendGh c (quarter t) (t / 4) ∗ owesE c (recvOwed c t)
              ∗ tab c V ∗ owns (c : Thread nD τ) M2 fullShare X)
            -∗ Q ⟨BitVec.ofNat 32 (i 0).val, c, v2, word c t, chk2 i c ht, v21, word c t, chk1 i c ht, v24, v25, k0_pay2 X⟩))
      ⊢ wpc c (k0_part3 i tabM h1 M2 h2 M3 h3 outM h4 scrM h5 cc0_scratch1 cc0_scratch2 cc0_scratch3) Q := by
  rw [k0_part3_eq_skeleton]
  unfold k0_part3_skel
  dsimp only
  iintro ⟨#HI, #Hlev, #HrR, Hbar, Hslot, HO, Ht, Hx, Hk⟩
  iapply (device_step Q c)
  iapply (table_step Q c hV i hi)
  isplitl [Ht]; · iexact Ht
  iintro Ht
  iapply (assume_step Q c _ (chk2 i c ht))
  iapply (table_step Q c hV i hi)
  isplitl [Ht]; · iexact Ht
  iintro Ht
  iapply (assume_step Q c _ (chk1 i c ht))
  iapply (barrier_step m Q K c i hi)
  isplitr; · iexact HI
  isplitr; · iexact Hlev
  isplitr; · iexact HrR
  isplitl [Hbar]; · iexact Hbar
  isplitl [HO]; · iexact HO
  iintro ⟨Hv, Hd, HO⟩
  iapply (slotWait_step m Q K c ht (k0_cond6 i = 1#1) ((cond6_iff i).trans (by rw [hi])) (fun _ => (k0_off3_eq i).trans (by rw [hi]; rfl)) _ (by intro _; rfl))
  isplitr; · iexact HI
  isplitr; · iexact Hlev
  isplitl [Hslot]; · iexact Hslot
  isplitl [HO]; · iexact HO
  iintro ⟨Hs, Hg, HO⟩
  iapply (load_step Q c M2 X (by funext a; fin_cases a <;> rfl))
  isplitl [Hx]; · iexact Hx
  iintro Hx
  iapply (wp_ret_intro Q c)
  iapply Hk
  isplitl [Hv]; · iexact Hv
  isplitl [Hd]; · iexact Hd
  isplitl [Hs]; · iexact Hs
  isplitl [Hg]; · iexact Hg
  isplitl [HO]; · iexact HO
  isplitl [Ht] <;> iassumption

end Cert.KernelIdeal.Talk

end
-- ==== Proof.KernelIdeal.Run.lean ====
/-
# The whole body, run at one grid point
-/
module

public import proofs.«01_k».proof.Proof.KernelIdeal.Body

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The twelve waits of the last grid point -/

theorem part1_step (K : GSem nD τ sig → ℕ) (c : Dev nD) (i : grid0.Coords)
    (M2 : Memref sig .tc .vmem S1024x4096 .f32) (h2 : M2.IsWhole) (M3 : Memref sig .tc .vmem S4096x512 .f32) (h3 : M3.IsWhole)
    (h1 : tabM.IsWhole) (h4 : outM.IsWhole) (h5 : scrM.IsWhole) (v2 : BitVec 32) (Q : BitVec 32 → sProp 𝕄) :
    iprop(invs m K ∗ recvGot m c 0 ∗ owesE c 0 ∗ (∀ v : BitVec 32, (recvGot m c 4 ∗ owesE c 0) -∗ Q v))
      ⊢ wpc c (k0_part1 i tabM h1 M2 h2 M3 h3 outM h4 scrM h5 cc0_scratch1 cc0_scratch2 cc0_scratch3 v2) Q := by
  rw [k0_part1_eq_skeleton]
  unfold k0_part1_skel
  dsimp only
  iintro ⟨#HI, Hr, HO, Hk⟩
  iapply (recv_step m Q K c (k := 0) (by omega) _ _ (by rfl))
  isplitr; · iexact HI
  isplitl [Hr]; · iexact Hr
  isplitl [HO]; · iexact HO
  iintro ⟨Hr, HO⟩
  iapply (recv_step m Q K c (k := 1) (by omega) _ _ (by rfl))
  isplitr; · iexact HI
  isplitl [Hr]; · iexact Hr
  isplitl [HO]; · iexact HO
  iintro ⟨Hr, HO⟩
  iapply (recv_step m Q K c (k := 2) (by omega) _ _ (by rfl))
  isplitr; · iexact HI
  isplitl [Hr]; · iexact Hr
  isplitl [HO]; · iexact HO
  iintro ⟨Hr, HO⟩
  iapply (recv_step m Q K c (k := 3) (by omega) _ _ (by rfl))
  isplitr; · iexact HI
  isplitl [Hr]; · iexact Hr
  isplitl [HO]; · iexact HO
  iintro ⟨Hr, HO⟩
  iapply (wp_ret_intro Q c)
  iapply Hk
  isplitl [Hr] <;> iassumption

theorem part2_step (K : GSem nD τ sig → ℕ) (c : Dev nD) (i : grid0.Coords)
    (M2 : Memref sig .tc .vmem S1024x4096 .f32) (h2 : M2.IsWhole) (M3 : Memref sig .tc .vmem S4096x512 .f32) (h3 : M3.IsWhole)
    (h1 : tabM.IsWhole) (h4 : outM.IsWhole) (h5 : scrM.IsWhole) (v2 v76 : BitVec 32) (Q : PUnit → sProp 𝕄) :
    iprop(invs m K ∗ recvGot m c 4 ∗ owesE c 0 ∗ (∀ v : PUnit, (recvGot m c 8 ∗ owesE c 0) -∗ Q v))
      ⊢ wpc c (k0_part2 i tabM h1 M2 h2 M3 h3 outM h4 scrM h5 cc0_scratch1 cc0_scratch2 cc0_scratch3 v2 v76) Q := by
  rw [k0_part2_eq_skeleton]
  unfold k0_part2_skel
  dsimp only
  iintro ⟨#HI, Hr, HO, Hk⟩
  iapply (recv_step m Q K c (k := 4) (by omega) _ _ (by rfl))
  isplitr; · iexact HI
  isplitl [Hr]; · iexact Hr
  isplitl [HO]; · iexact HO
  iintro ⟨Hr, HO⟩
  iapply (recv_step m Q K c (k := 5) (by omega) _ _ (by rfl))
  isplitr; · iexact HI
  isplitl [Hr]; · iexact Hr
  isplitl [HO]; · iexact HO
  iintro ⟨Hr, HO⟩
  iapply (recv_step m Q K c (k := 6) (by omega) _ _ (by rfl))
  isplitr; · iexact HI
  isplitl [Hr]; · iexact Hr
  isplitl [HO]; · iexact HO
  iintro ⟨Hr, HO⟩
  iapply (recv_step m Q K c (k := 7) (by omega) _ _ (by rfl))
  isplitr; · iexact HI
  isplitl [Hr]; · iexact Hr
  isplitl [HO]; · iexact HO
  iintro ⟨Hr, HO⟩
  iapply (wp_ret_intro Q c)
  iapply Hk
  isplitl [Hr] <;> iassumption

/-! ## One grid point -/

theorem bind_step {α β : Type} (c : Dev nD) {p : Prog (TpuEff nD τ sig (Elt F) Λ₀ .tc) α} {k : α → Prog (TpuEff nD τ sig (Elt F) Λ₀ .tc) β}
    {Q : β → sProp 𝕄} : wpc c p (fun a => wpc c (k a) Q) ⊢ wpc c (p >>= k) Q :=
  Entails.of_eq (wp_bind _ _ _ p k Q).symm

/-- The body at one grid point. `X` and `Wb` are the contents of the two staged windows. -/
theorem body_step (c : Dev nD) {V : Buf (Elt F) ((c : Thread nD τ).loc main_v14)} (hV : IsTable c V)
    (i : grid0.Coords) {t : ℕ} (hi : (i 0).val = t) (ht : t < 16)
    (M2 : Memref sig .tc .vmem S1024x4096 .f32) (h2 : M2.IsWhole) (M3 : Memref sig .tc .vmem S4096x512 .f32) (h3 : M3.IsWhole)
    (h1 : tabM.IsWhole) (h4 : outM.IsWhole) (h5 : scrM.IsWhole) (X : Vec F S1024x4096 .f32) (Wb : Vec F S4096x512 .f32)
    (hXW : k0_pay1 (k0_pay2 X) Wb = stored m c (colBlock c t)) :
    iprop(Inv m c t ∗ owesE c (owedAt c t) ∗ tab c V ∗ owns (c : Thread nD τ) M2 fullShare X ∗ owns (c : Thread nD τ) M3 fullShare Wb)
      ⊢ wpc c (cc0_body i tabM h1 M2 h2 M3 h3 outM h4 scrM h5 cc0_scratch1 cc0_scratch2 cc0_scratch3)
          (fun _ => iprop(Inv m c (t + 1) ∗ owesE c (owedAt c (t + 1)) ∗ tab c V ∗ owns (c : Thread nD τ) M2 fullShare X
            ∗ owns (c : Thread nD τ) M3 fullShare Wb)) := by
  have hk0 : owedAt c (t + 1) = recvOwed c (t + 1) := by unfold owedAt; rw [if_neg (Nat.succ_ne_zero t)]
  rw [cc0_body_eq_skeleton, hk0]
  unfold cc0_body_skel
  dsimp only
  unfold Inv
  rw [if_pos ht]
  iintro ⟨⟨⟨%K, #HI⟩, #Hlev, #HrR, Hbar, Htoks, Hown, Hloc, Hslots, Hrecv⟩, HO, Ht, Hx, Hw⟩
  ihave Hsl := (slots_step c ht) $$ Hslots
  icases Hsl with ⟨Hslot, Hback⟩
  iapply (bind_step c)
  iapply (part3_step m K c hV i hi ht M2 h2 M3 h3 h1 h4 h5 X)
  isplitr; · iexact HI
  isplitr; · iexact Hlev
  isplitr; · iexact HrR
  isplitl [Hbar]; · iexact Hbar
  isplitl [Hslot]; · iexact Hslot
  isplitl [HO]; · iexact HO
  isplitl [Ht]; · iexact Ht
  isplitl [Hx]; · iexact Hx
  iintro %v2 %v21 %v24 %v25 ⟨Hv, Hd, Hs, Hg, HO, Ht, Hx⟩
  dsimp only
  iapply (load_step _ c M3 Wb (by funext a; fin_cases a <;> rfl))
  isplitl [Hw]; · iexact Hw
  iintro Hw
  have h5o : k0_off5 i = ![(quarter t).val, 0, 0] := (k0_off5_eq i).trans (by rw [hi]; rfl)
  iapply (slotLoad_step _ c (quarter t) h5o)
  isplitl [Hs]; · iexact Hs
  iintro Hs
  iapply (slotStore_step _ c (quarter t) h5o)
  isplitl [Hs]; · iexact Hs
  iintro Hs
  iapply (send_step m _ K c ht (k0_cond7 i = 1#1) ((cond7_iff i).trans (by rw [hi]))
    (shapeCast S1024x512 (k0_pay1 (k0_pay2 X) Wb) squeezes_S1x1024x512_S1024x512.numel_eq) (by rw [hXW]; rfl)
    (fun _ => (k0_off6_eq i).trans (by rw [hi]; rfl)) _ (fun _ => off7_eq c ht) _ (fun _ => (k0_off8_eq i).trans (by rw [hi]; rfl)) _
    (fun _ => Fin.ext (dev5_eq c ht)))
  isplitr; · iexact HI
  isplitl [Hs]; · iexact Hs
  isplitl [Hg]; · iexact Hg
  isplitl [Hd]; · iexact Hd
  isplitl [Htoks]; · iexact Htoks
  isplitl [HO]; · iexact HO
  iintro ⟨Hs, Hd, Htoks, HO⟩
  iapply (local_step m _ K c ht (k0_cond8 i = 1#1) ((cond8_iff i).trans (by rw [hi]))
    (shapeCast S1024x512 (k0_pay1 (k0_pay2 X) Wb) squeezes_S1x1024x512_S1024x512.numel_eq) (by rw [hXW]; rfl)
    (fun _ => off9_eq c ht) _ (fun _ => (k0_off10_eq i).trans (by rw [hi]; rfl)) _)
  isplitr; · iexact HI
  isplitl [Hs]; · iexact Hs
  isplitl [Hown]; · iexact Hown
  isplitl [Hloc]; · iexact Hloc
  isplitl [HO]; · iexact HO
  iintro ⟨Hs, Hown, Hloc, HO⟩
  ihave Hslots := Hback $$ Hs
  by_cases h15 : t = 15
  · rw [dif_pos ((last_iff i).mpr (hi.trans h15))]
    subst h15
    rw [recvOwed_late c (show 12 ≤ 15 + 1 by omega)]
    ihave Hr := (Entails.of_eq (rfl : (recvGot m c 0 : sProp 𝕄) = recvGot m c 0)) $$ Hrecv
    iapply (bind_step c)
    iapply (part1_step m K c i M2 h2 M3 h3 h1 h4 h5)
    isplitr; · iexact HI
    isplitl [Hr]; · iexact Hr
    isplitl [HO]; · iexact HO
    iintro %v76 ⟨Hr, HO⟩
    iapply (bind_step c)
    iapply (part2_step m K c i M2 h2 M3 h3 h1 h4 h5)
    isplitr; · iexact HI
    isplitl [Hr]; · iexact Hr
    isplitl [HO]; · iexact HO
    iintro %u ⟨Hr, HO⟩
    iapply (recv_step m _ K c (k := 8) (by omega) _ _ (by rfl))
    isplitr; · iexact HI
    isplitl [Hr]; · iexact Hr
    isplitl [HO]; · iexact HO
    iintro ⟨Hr, HO⟩
    iapply (recv_step m _ K c (k := 9) (by omega) _ _ (by rfl))
    isplitr; · iexact HI
    isplitl [Hr]; · iexact Hr
    isplitl [HO]; · iexact HO
    iintro ⟨Hr, HO⟩
    iapply (recv_step m _ K c (k := 10) (by omega) _ _ (by rfl))
    isplitr; · iexact HI
    isplitl [Hr]; · iexact Hr
    isplitl [HO]; · iexact HO
    iintro ⟨Hr, HO⟩
    iapply (recv_step m _ K c (k := 11) (by omega) _ _ (by rfl))
    isplitr; · iexact HI
    isplitl [Hr]; · iexact Hr
    isplitl [HO]; · iexact HO
    iintro ⟨Hr, HO⟩
    iapply (wp_ret_intro _ c)
    isplitr [HO Ht Hx Hw]
    · isplitr; · iexists K; iexact HI
      isplitr; · iexact Hlev
      isplitr; · iexact HrR
      isplitl [Hv Hd]
      · unfold barrier; rw [if_neg (Nat.succ_ne_zero _)]
        isplitl [Hv] <;> iassumption
      isplitl [Htoks]; · iexact Htoks
      isplitl [Hown]; · iexact Hown
      isplitl [Hloc]; · iexact Hloc
      isplitl [Hslots]; · iexact Hslots
      rw [if_neg (show ¬ 15 + 1 < 16 by omega)]; iexact Hr
    isplitl [HO]; · iexact HO
    isplitl [Ht]; · iexact Ht
    isplitl [Hx] <;> iassumption
  · rw [dif_neg (fun h => h15 (hi.symm.trans ((last_iff i).mp h)))]
    iapply (wp_ret_intro _ c)
    isplitr [HO Ht Hx Hw]
    · isplitr; · iexists K; iexact HI
      isplitr; · iexact Hlev
      isplitr; · iexact HrR
      isplitl [Hv Hd]
      · unfold barrier; rw [if_neg (Nat.succ_ne_zero _)]
        isplitl [Hv] <;> iassumption
      isplitl [Htoks]; · iexact Htoks
      isplitl [Hown]; · iexact Hown
      isplitl [Hloc]; · iexact Hloc
      isplitl [Hslots]; · iexact Hslots
      rw [if_pos (show t + 1 < 16 by omega)]; iexact Hrecv
    isplitl [HO]; · iexact HO
    isplitl [Ht]; · iexact Ht
    isplitl [Hx] <;> iassumption

end Cert.KernelIdeal.Talk

end
-- ==== Proof.KernelIdeal.Data.lean ====
/-
# The pipeline's proof data

Each device's table and what its windows hold at each grid point.
-/
module

public import proofs.«01_k».proof.Proof.KernelIdeal.Run
public import proofs.«01_k».proof.Proof.Gen.KernelIdeal.Regions
public import Idealize.ShloMosaic.Lib.Pipeline.FrameBody

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tables -/

/-- The contents of the table on device `c` when the kernel starts. -/
def tabV (c : Dev nD) : Buf (Elt F) ((c : Thread nD τ).loc main_v14) := V7 m c main_v14
theorem tabV_is (c : Dev nD) : IsTable c (tabV (F := F) m c) := fun j => table_eq m c j

def tabPf (c : Dev nD) : pre0.Contents (Elt F) := fun
  | 0 => tabV m c
  | ⟨_ + 1, h⟩ => absurd h (Nat.not_lt.2 (Nat.le_add_left _ _))

theorem point_lt (i : grid0.Coords) : (i 0).val < 16 := (i 0).isLt

theorem colBlock_lt (c : Dev nD) (t : ℕ) : colBlock c t < 16 := by
  have h1 := (peer c t).isLt
  have h2 := (quarter t).isLt
  have : (peer c t).val < 4 := h1
  unfold colBlock; omega

theorem transform_eq (c : Dev nD) (i : grid0.Coords) :
    cc0_transform_1 (F := F) k0_off1_inb numel1_S1 (tabPf m c) i = ![0, colBlock c (i 0).val] := by
  have h : (tabPf (F := F) m c).at 0 (Rect.unit (s := S16) ![(Scalar.indexCast (BitVec.ofNat 32 (i 0).val) : Index).toNat] S1.size (k0_off1_inb i)) numel1_S1
      = BitVec.ofNat 32 (colBlock c (i 0).val) := by
    refine (tabV_is m c _).trans ?_
    refine congrArg (fun n => BitVec.ofNat 32 (colBlock c n)) ?_
    have h0 := point_lt i
    show (BitVec.ofNat 32 (i 0).val).toNat + 1 * 0 = (i 0).val
    rw [BitVec.toNat_ofNat]; omega
  have hb := colBlock_lt c (i 0).val
  unfold cc0_transform_1
  dsimp only
  rw [h]
  funext a
  fin_cases a
  · rfl
  · show (BitVec.ofNat 32 (colBlock c (i 0).val)).toNat = colBlock c (i 0).val
    rw [BitVec.toNat_ofNat]; omega

theorem tab_ok (c : Dev nD) : ok0 (tabPf (F := F) m c) := fun i => by
  have hb := colBlock_lt c (i 0).val
  refine ⟨?_, .inl rfl⟩
  rw [transform_eq]
  intro a
  fin_cases a
  · exact (by decide : (0 + 1) * 4096 ≤ 4096)
  · show (colBlock c (i 0).val + 1) * 512 ≤ 8192
    omega

def adm (c : Dev nD) (p : Fin 1) : (pcfgs (F := F) p).Adm := ⟨tabPf m c, tab_ok m c⟩

abbrev cfgAt (c : Dev nD) (p : Fin 1) : Pipeline.Cfg sig Λ₀ := Pipeline.pinD (pcfgs (F := F)) (adm m) c p

theorem held_tab (c : Dev nD) :
    (Pipeline.prefHeld pre0 c (fun _ => fullShare) (tabPf m c) : sProp 𝕄) = tab c (tabV m c) := by
  unfold Pipeline.prefHeld
  exact bigSep_singleton (i := (0 : Fin 1))

/-! ## The data -/

def datA (c : Dev nD) : (w : Fin 2) → Buf (Elt F) ((spec0 w).arr.view.loc (c : Thread nD τ)) := fun
  | 0 => m ((c : Thread nD τ).loc main_arg0)
  | 1 => m ((c : Thread nD τ).loc main_arg1)
  | ⟨_ + 2, h⟩ => absurd h (Nat.not_lt.2 (Nat.le_add_left _ _))

def dat (c : Dev nD) : Pipeline.Dat τ (Elt F) Unit ℕ UU ℕ (cfgAt (F := F) m c 0) c where
  A := datA m c
  after w t := (((cfgAt m c 0).win w).blk t).view.read (Elt F) (datA m c w)
  Φ n := iprop(Inv m c n.val ∗ tab c (tabV m c))
  q _ := fullShare
  owed n := owedAt c n.val

def pdats (p : Fin 1) (c : Dev nD) : Pipeline.Dat τ (Elt F) Unit ℕ UU ℕ (cfgAt (F := F) m c p) c :=
  match p with
  | 0 => dat m c
  | ⟨_ + 1, h⟩ => absurd h (Nat.not_lt.2 (Nat.le_add_left _ _))

/-! ## What the windows hold -/

theorem coord_eq : ∀ t : Fin grid0.N, (grid0.coords t 0).val = t.val := by decide +kernel
theorem point_lt' : ∀ t : Fin grid0.N, t.val < 16 := by decide +kernel

/-- The first window holds the device's rows. -/
theorem rows_eq (c : Dev nD) (t : Fin grid0.N) :
    ((dat m c).after 0 t : Vec F S1024x4096 .f32) = (m ((c : Thread nD τ).loc main_arg0) : S1024x4096.Idx → Elt F .f32) := by
  refine funext fun (j : S1024x4096.Idx) => ?_
  show (m ((c : Thread nD τ).loc main_arg0) : S1024x4096.Idx → Elt F .f32) _ = _
  refine congrArg (m ((c : Thread nD τ).loc main_arg0) : S1024x4096.Idx → Elt F .f32) ?_
  funext a
  refine Fin.ext ?_
  fin_cases a
  · show 0 * 1024 + 1 * (j 0).val = (j 0).val
    omega
  · show 0 * 4096 + 1 * (j 1).val = (j 1).val
    omega

/-- The second holds the column block that the table names. -/
theorem cols_eq (c : Dev nD) (t : Fin grid0.N) :
    ((dat m c).after 1 t : Vec F S4096x512 .f32) = wBlock m c (colBlock c t.val) := by
  refine funext fun (j : S4096x512.Idx) => ?_
  show (m ((c : Thread nD τ).loc main_arg1) : S4096x8192.Idx → Elt F .f32) _ = (m ((c : Thread nD τ).loc main_arg1) : S4096x8192.Idx → Elt F .f32) _
  refine congrArg (m ((c : Thread nD τ).loc main_arg1) : S4096x8192.Idx → Elt F .f32) ?_
  have h := transform_eq m c (grid0.coords t)
  have hb := colBlock_lt c t.val
  have hj : (j 1).val < 512 := (j 1).isLt
  rw [coord_eq] at h
  funext a
  refine Fin.ext ?_
  fin_cases a
  · show cc0_transform_1 (F := F) k0_off1_inb numel1_S1 (tabPf m c) (grid0.coords t) 0 * 4096 + 1 * (j 0).val = (j 0).val
    rw [h]
    show 0 * 4096 + 1 * (j 0).val = (j 0).val
    omega
  · show cc0_transform_1 (F := F) k0_off1_inb numel1_S1 (tabPf m c) (grid0.coords t) 1 * 512 + 1 * (j 1).val
      = (512 * colBlock c t.val + (j 1).val) % 8192
    rw [h]
    show colBlock c t.val * 512 + 1 * (j 1).val = (512 * colBlock c t.val + (j 1).val) % 8192
    rw [Nat.mod_eq_of_lt (by omega)]
    omega

theorem before_rows (c : Dev nD) (t : Fin grid0.N) (d) : (dat m c).before 0 t d = (dat m c).after 0 t :=
  ((dat m c).before_in_eq_fetched 0 rfl (fun _ => rfl) (fun _ _ _ => rfl) (fun _ => rfl) t d).trans rfl
theorem before_cols (c : Dev nD) (t : Fin grid0.N) (d) : (dat m c).before 1 t d = (dat m c).after 1 t :=
  ((dat m c).before_in_eq_fetched 1 rfl (fun _ => rfl) (fun _ _ _ => rfl) (fun _ => rfl) t d).trans rfl

/-! ## The body at every point -/

theorem owesAt_from (c : Dev nD) (t : Fin ((cfgAt (F := F) m c 0).N + 1)) :
    (owesE c (owedAt c t.val) : sProp 𝕄) ⊢ (dat m c).owesAt () t := by
  unfold owesE Pipeline.Dat.owesAt Pipeline.owesWithin Pipeline.Dat.bound
  iintro ⟨%W, HO⟩; iexists W; isplitr; · ipureintro; exact fun _ _ => Or.inl trivial
  iexact HO
theorem owesAt_to (c : Dev nD) (t : Fin ((cfgAt (F := F) m c 0).N + 1)) :
    ((dat m c).owesAt () t : sProp 𝕄) ⊢ owesE c (owedAt c t.val) := by
  unfold owesE Pipeline.Dat.owesAt Pipeline.owesWithin
  iintro ⟨%W, -, HO⟩; iexists W; iexact HO

theorem after_point (c : Dev nD) (t : Fin grid0.N) {A B : sProp 𝕄} :
    iprop(Inv m c (t.val + 1) ∗ owesE c (owedAt c (t.val + 1)) ∗ tab c (tabV m c) ∗ A ∗ B)
      ⊢ iprop((Inv m c (t.val + 1) ∗ tab c (tabV m c)) ∗ (dat m c).owesAt () (Fin.succ t) ∗ A ∗ B) := by
  iintro ⟨HI, HO, HT, H0, H1⟩
  isplitl [HI HT]
  · isplitl [HI]; · iexact HI
    iexact HT
  isplitl [HO]; · iapply (owesAt_from m c (Fin.succ t)); iexact HO
  isplitl [H0]; · iexact H0
  iexact H1

theorem body_at (c : Dev nD) : Pipeline.BodyObligation (dat m c) defs₀ 𝒱₀ () Set.univ := fun t => by
  have key := body_step m c (tabV_is m c) (grid0.coords t) (coord_eq t) (point_lt' t)
    (spec0_0.stage ((cfgAt m c 0).slots t 0)) (hstage0_0 _) (spec0_1.stage ((cfgAt m c 0).slots t 1)) (hstage0_1 _)
    (Memref.isWhole_whole _) (Memref.isWhole_whole _) (Memref.isWhole_whole _) ((dat m c).after 0 t) ((dat m c).after 1 t)
    (by rw [rows_eq, cols_eq]; rfl)
  rw [bigSep_W0, bigSep_W0]
  show iprop((Inv m c t.val ∗ tab c (tabV m c)) ∗ (dat m c).owesAt () t.castSucc
      ∗ (∃ d, owns (c : Thread nD τ) (spec0_0.stage ((cfgAt m c 0).slots t 0)) fullShare ((dat m c).before 0 t d))
      ∗ ∃ d, owns (c : Thread nD τ) (spec0_1.stage ((cfgAt m c 0).slots t 1)) fullShare ((dat m c).before 1 t d))
    ⊢ wpc c (cc0_body (grid0.coords t) tabM (Memref.isWhole_whole _) (spec0_0.stage ((cfgAt m c 0).slots t 0)) (hstage0_0 _)
        (spec0_1.stage ((cfgAt m c 0).slots t 1)) (hstage0_1 _) outM (Memref.isWhole_whole _) scrM (Memref.isWhole_whole _)
        cc0_scratch1 cc0_scratch2 cc0_scratch3)
      fun _ => iprop((Inv m c (t.val + 1) ∗ tab c (tabV m c)) ∗ (dat m c).owesAt () t.succ
        ∗ owns (c : Thread nD τ) (spec0_0.stage ((cfgAt m c 0).slots t 0)) fullShare ((dat m c).after 0 t)
        ∗ owns (c : Thread nD τ) (spec0_1.stage ((cfgAt m c 0).slots t 1)) fullShare ((dat m c).after 1 t))
  iintro ⟨⟨HI, HT⟩, HO, ⟨%d0, H0⟩, ⟨%d1, H1⟩⟩
  rw [before_rows, before_cols]
  ihave HO' := (owesAt_to m c t.castSucc) $$ HO
  ihave G := (key.trans (wp_mono _ _ _ fun _ => (after_point m c t))) $$ [HI HT HO' H0 H1]
  · isplitl [HI]; · iexact HI
    isplitl [HO']; · iexact HO'
    isplitl [HT]; · iexact HT
    isplitl [H0]; · iexact H0
    iexact H1
  iexact G

end Cert.KernelIdeal.Talk

end
-- ==== Proof.KernelIdeal.Blocks.lean ====
/-
# The memory cut into tiles and slots, and the unscoped buffers sorted
-/
module

public import proofs.«01_k».proof.Proof.KernelIdeal.Data
public import Idealize.ShloMosaic.Lib.Ring

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result, tile by tile -/

theorem mem_tile (d : Dev nD) (q : Fin 4) (i : S4096x2048.Idx) :
    i ∈ (tileM d q).view.set ↔ (i 0).val / 1024 = d.val ∧ (i 1).val / 512 = q.val := by
  have h : i ∈ (tileM d q).view.set ↔ i ∈ (Rect.unit (s := S4096x2048) ![1024 * d.val, 512 * q.val] S1024x512.size (tile_inb d q)).set := by
    rw [show (tileM d q).view.set = (Rect.unit (s := S4096x2048) ![1024 * d.val, 512 * q.val] S1024x512.size (tile_inb d q)).set from
      View.set_slice_whole _ _]
  rw [h, Rect.mem_set_unit]
  constructor
  · intro H
    have h0 : 1024 * d.val ≤ (i 0).val ∧ (i 0).val < 1024 * d.val + 1024 := H 0
    have h1 : 512 * q.val ≤ (i 1).val ∧ (i 1).val < 512 * q.val + 512 := H 1
    omega
  · rintro ⟨h0, h1⟩ a
    fin_cases a
    · show 1024 * d.val ≤ (i 0).val ∧ (i 0).val < 1024 * d.val + 1024
      omega
    · show 512 * q.val ≤ (i 1).val ∧ (i 1).val < 512 * q.val + 512
      omega

def tileSet (dq : Duty) : Finset S4096x2048.Idx := (tileM dq.1 dq.2).view.set

theorem tile_disjoint (a b : Duty) (h : a ≠ b) : Disjoint (tileSet a) (tileSet b) := by
  rw [Finset.disjoint_left]
  intro i hi hj
  have h1 := (mem_tile a.1 a.2 i).mp hi
  have h2 := (mem_tile b.1 b.2 i).mp hj
  exact h (Prod.ext (Fin.ext (h1.1.symm.trans h2.1)) (Fin.ext (h1.2.symm.trans h2.2)))

theorem tile_cover : (Finset.univ : Finset Duty).biUnion tileSet = Finset.univ := by
  refine Finset.eq_univ_iff_forall.mpr fun i => ?_
  have h0 : (i 0).val < 4096 := (i 0).isLt
  have h1 : (i 1).val < 2048 := (i 1).isLt
  have hd : (i 0).val / 1024 < 4 := by omega
  have hq : (i 1).val / 512 < 4 := by omega
  exact Finset.mem_biUnion.mpr ⟨((⟨(i 0).val / 1024, hd⟩ : Dev nD), (⟨(i 1).val / 512, hq⟩ : Fin 4)), Finset.mem_univ _,
    (mem_tile ⟨(i 0).val / 1024, hd⟩ ⟨(i 1).val / 512, hq⟩ i).mpr ⟨rfl, rfl⟩⟩

/-- The result of device `e` held whole, at the contents `f`, is its sixteen tiles. -/
theorem out_tiles (e : Dev nD) (f : Buf (Elt F) ((e : Thread nD τ).loc main_v15)) :
    (((e : Thread nD τ).loc main_v15) ↦{fullShare} f : sProp 𝕄)
      = bigSep Finset.univ fun d : Dev nD => bigSep Finset.univ fun q : Fin 4 => tilePts e d q f := by
  rw [Ring.pointsTo_blocks (ℓ := (e : Thread nD τ).loc main_v15) tileSet tile_disjoint tile_cover f, bigSep_univ_prod]
  rfl

theorem any_intro (e d : Dev nD) (q : Fin 4) (f : Buf (Elt F) ((e : Thread nD τ).loc main_v15)) :
    iprop(tilePts e d q f) ⊢ (tileAny e d q : sProp 𝕄) := by
  unfold tileAny; iintro H; iexists f; iexact H

/-- At contents not chosen. -/
theorem out_any (e : Dev nD) (f : Buf (Elt F) ((e : Thread nD τ).loc main_v15)) :
    (((e : Thread nD τ).loc main_v15) ↦{fullShare} f : sProp 𝕄)
      ⊢ bigSep Finset.univ fun d : Dev nD => bigSep Finset.univ fun q : Fin 4 => tileAny e d q := by
  rw [out_tiles]
  exact bigSep_mono fun d _ => bigSep_mono fun q _ => any_intro e d q f

/-- The filled tiles are the result at its final contents. -/
theorem out_done (e : Dev nD) :
    iprop((bigSep Finset.univ fun q : Fin 4 => tileDone m e e q) ∗ bigSep (recvDuties e) fun dq => tileDone m e dq.1 dq.2)
      ⊢ (((e : Thread nD τ).loc main_v15) ↦{fullShare} outFinal m e : sProp 𝕄) := by
  rw [out_tiles, bigSep_univ_at (fun d : Dev nD => bigSep Finset.univ fun q : Fin 4 => (tilePts e d q (outFinal m e) : sProp 𝕄)) e,
    recvDuties, SparseCore.bigSep_product]
  exact .rfl

/-! ## The scratch, slot by slot -/

theorem mem_slot (s : Fin 4) (i : S4x1024x512.Idx) : i ∈ (slotM s).view.set ↔ (i 0).val = s.val := by
  have h : i ∈ (slotM s).view.set ↔ i ∈ (Rect.unit (s := S4x1024x512) ![s.val, 0, 0] S1x1024x512.size (slot_inb s)).set := by
    rw [← slot_set, show (scrM.access (Rect.unit (s := S4x1024x512) ![s.val, 0, 0] S1x1024x512.size (slot_inb s))).set
      = (Rect.unit (s := S4x1024x512) ![s.val, 0, 0] S1x1024x512.size (slot_inb s)).set from View.set_slice_whole _ _]
  rw [h, Rect.mem_set_unit]
  constructor
  · intro H
    have h0 : s.val ≤ (i 0).val ∧ (i 0).val < s.val + 1 := H 0
    omega
  · intro h0 a
    have h1 : (i 1).val < 1024 := (i 1).isLt
    have h2 : (i 2).val < 512 := (i 2).isLt
    fin_cases a
    · show s.val ≤ (i 0).val ∧ (i 0).val < s.val + 1
      omega
    · show 0 ≤ (i 1).val ∧ (i 1).val < 0 + 1024
      omega
    · show 0 ≤ (i 2).val ∧ (i 2).val < 0 + 512
      omega

def slotSet (s : Fin 4) : Finset S4x1024x512.Idx := (slotM s).view.set

theorem slot_disjoint (a b : Fin 4) (h : a ≠ b) : Disjoint (slotSet a) (slotSet b) := by
  rw [Finset.disjoint_left]
  intro i hi hj
  exact h (Fin.ext (((mem_slot a i).mp hi).symm.trans ((mem_slot b i).mp hj)))

theorem slot_cover : (Finset.univ : Finset (Fin 4)).biUnion slotSet = Finset.univ := by
  refine Finset.eq_univ_iff_forall.mpr fun i => ?_
  exact Finset.mem_biUnion.mpr ⟨⟨(i 0).val, (i 0).isLt⟩, Finset.mem_univ _, (mem_slot _ i).mpr rfl⟩

theorem scr_any (c : Dev nD) :
    (iprop(∃ f : Buf (Elt F) ((c : Thread nD τ).loc cc0_scratch0), ((c : Thread nD τ).loc cc0_scratch0) ↦{fullShare} f) : sProp 𝕄)
      ⊢ bigSep Finset.univ fun s : Fin 4 => slotAny c s := by
  iintro ⟨%f, H⟩
  iapply (show (((c : Thread nD τ).loc cc0_scratch0) ↦{fullShare} f : sProp 𝕄) ⊢ bigSep Finset.univ fun s : Fin 4 => slotAny c s from by
    rw [Ring.pointsTo_blocks (ℓ := (c : Thread nD τ).loc cc0_scratch0) slotSet slot_disjoint slot_cover f]
    exact bigSep_mono fun s _ => by
      exact slotPts_any c s f)
  iexact H

theorem scr_join (c : Dev nD) (f₀ : Buf (Elt F) ((c : Thread nD τ).loc cc0_scratch0)) :
    (bigSep Finset.univ fun s : Fin 4 => slotAny c s : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) slotSet slot_disjoint slot_cover f₀

/-! ## The unscoped buffers -/

abbrev dref (b : Ref sig .tc) : DevRef τ sig := Proc.devRef .tc b

def mine : Finset (DevRef τ sig) := {dref main_arg0, dref main_arg1, dref main_v14, dref main_v15}
theorem mine_sub : (mine : Finset (DevRef τ sig)) ⊆ Pipeline.ucRefs τ sig := by
  have h (b : Ref sig .tc) (hb : ¬ (Proc.devRef .tc b : DevRef τ sig).isScoped) : dref b ∈ Pipeline.ucRefs τ sig :=
    Finset.mem_filter.mpr ⟨StableHlo.devRef_mem_tcRefs b, hb⟩
  intro b hb
  simp only [mine, Finset.mem_insert, Finset.mem_singleton] at hb
  rcases hb with rfl | rfl | rfl | rfl
  · exact h main_arg0 (by decide)
  · exact h main_arg1 (by decide)
  · exact h main_v14 (by decide)
  · exact h main_v15 (by decide)

/-- The buffers that the region leaves alone. -/
def others : Finset (DevRef τ sig) := Pipeline.ucRefs τ sig \ mine

theorem held_sort (c : Dev nD) (V : Valuation τ sig (Elt F)) :
    (StableHlo.held (c : Thread nD τ) (Pipeline.ucRefs τ sig) V : sProp 𝕄)
      = iprop(((((c : Thread nD τ).loc main_arg0) ↦{fullShare} V main_arg0) ∗ (((c : Thread nD τ).loc main_arg1) ↦{fullShare} V main_arg1)
          ∗ (((c : Thread nD τ).loc main_v14) ↦{fullShare} V main_v14) ∗ (((c : Thread nD τ).loc main_v15) ↦{fullShare} V main_v15))
        ∗ StableHlo.held (c : Thread nD τ) others V) := by
  unfold StableHlo.held
  rw [bigSep_sdiff_split mine_sub, mine, bigSep_insert (by decide), bigSep_insert (by decide), bigSep_insert (by decide), bigSep_singleton]
  rfl

/-- The buffers' contents after the region: the result at its final contents, the others as before. -/
def outs : Outs (F := F) := fun _ r c => (Function.update (V7 m c) (dref main_v15) (outFinal m c : (dref main_v15).ty.Contents (Elt F)) : Valuation τ sig (Elt F)) r

theorem V8_result (c : Dev nD) : (V8 m (outs m) c main_v15 : Buf (Elt F) ((c : Thread nD τ).loc main_v15)) = outFinal m c := by
  simp only [V8, outs, Function.update_self]

theorem held_others (c : Dev nD) :
    (StableHlo.held (c : Thread nD τ) others (V7 m c) : sProp 𝕄) = StableHlo.held (c : Thread nD τ) others (V8 m (outs m) c) := by
  unfold StableHlo.held
  refine bigSep_congr fun b hb => ?_
  have hne : b ≠ dref main_v15 := fun h => (Finset.mem_sdiff.mp hb).2 (by
    rw [h]; simp only [mine, Finset.mem_insert, Finset.mem_singleton, or_true])
  simp only [V8]
  rw [Function.update_of_ne hne]

end Cert.KernelIdeal.Talk

end
-- ==== Proof.KernelIdeal.Region.lean ====
/-
# The kernel's region: from the launch's holdings to the filled results

`start` is what a device holds of the protocol before the kernel starts: its barrier position and credits, the right to open
its six scoped cells, and the tokens of the duties that it pays.
-/
module

public import proofs.«01_k».proof.Proof.KernelIdeal.Blocks

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device starts with -/

/-- The tokens of the duties that device `c` pays. -/
def payToks (c : Dev nD) : sProp 𝕄 :=
  iprop((bigSep (Finset.univ.erase c) fun d : Dev nD => dutyTok ER (barCell d) 0 (c, 0)) ∗ sendToks c 0
    ∗ (bigSep Finset.univ fun s : Fin 4 => bigSep (Finset.Ico 0 3) fun r => dutyTok ER (sendCell c s) r (c, 0))
    ∗ bigSep (Finset.Ico 0 4) fun r => dutyTok ER (locCell c) r (c, 0))

/-- The records that every device may consult. -/
def records : sProp 𝕄 := iprop((∃ K, invs m K) ∗ bigSep Finset.univ fun d : Dev nD => reached ER (barCell d) 0)

instance records_persistent : BI.Persistent (records m) := by unfold records; infer_instance

def start (c : Dev nD) : sProp 𝕄 :=
  iprop(records m ∗ atPos ER (barCell c) 0 ∅ 0 ∗ cred (tallyAt (barCell c) () 3) ∗ cred (tallyAt (recvCell c) () (12 * N))
    ∗ (bigSep Finset.univ fun k : Fin 6 => openTok ER ((c : Thread nD τ), osem k)) ∗ payToks c)

/-- What rides along the host's operations before the kernel, and what is left after it. -/
def E : Fin 2 → Dev nD → sProp 𝕄 := fun
  | 0 => fun c => iprop(start m c ∗ owesE c (owedAt c 0))
  | 1 => fun c => iprop(semVal (barCell c) 0 ∗ owesE c 0)
  | ⟨_ + 2, h⟩ => absurd h (Nat.not_lt.2 (Nat.le_add_left _ _))

/-! ## Opening the six scoped cells -/

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem open_one (K : GSem nD τ sig → ℕ) (c : Dev nD) (k : Fin 6) :
    iprop((openTok ER ((c : Thread nD τ), osem k) ∗ semVal ((c : Thread nD τ), osem k) 0) ∗ invs m K)
      ⊢ (|={Set.univ}=> iprop(atPos ER ((c : Thread nD τ), osem k) 0 ∅ 0 ∗ reached ER ((c : Thread nD τ), osem k) 0) : sProp 𝕄) := by
  iintro ⟨⟨Ho, Hv⟩, #HI⟩
  iapply (Rounds.cell_open ER (talkRd m) (g := ((c : Thread nD τ), osem k)) (Set.mem_univ (K ((c : Thread nD τ), osem k))))
  isplitr; · iapply (inv_at m K (sc_mem c k)); iexact HI
  isplitl [Ho] <;> iassumption

theorem open_all (K : GSem nD τ sig → ℕ) (c : Dev nD) :
    iprop((bigSep Finset.univ fun k : Fin 6 => openTok ER ((c : Thread nD τ), osem k)) ∗ Pipeline.ownSems0 osem c ∗ invs m K)
      ⊢ (|={Set.univ}=> bigSep Finset.univ fun k : Fin 6 =>
          iprop(atPos ER ((c : Thread nD τ), osem k) 0 ∅ 0 ∗ reached ER ((c : Thread nD τ), osem k) 0) : sProp 𝕄) := by
  unfold Pipeline.ownSems0
  have h1 : (bigSep Finset.univ fun k : Fin 6 => iprop((openTok ER ((c : Thread nD τ), osem k) ∗ semVal ((c : Thread nD τ), osem k) 0) ∗ invs m K))
      ⊢ (|={Set.univ}=> bigSep Finset.univ fun k : Fin 6 =>
          iprop(atPos ER ((c : Thread nD τ), osem k) 0 ∅ 0 ∗ reached ER ((c : Thread nD τ), osem k) 0) : sProp 𝕄) :=
    (bigSep_mono fun k _ => open_one m K c k).trans (bigSep_fupd _ _)
  refine BIBase.Entails.trans ?_ h1
  iintro ⟨Ho, Hv, #HI⟩
  iapply (bigSep_with_persistent (S := Finset.univ) (R := invs m K)
    (Φ := fun k : Fin 6 => iprop(openTok ER ((c : Thread nD τ), osem k) ∗ semVal ((c : Thread nD τ), osem k) 0)) fun k _ => by
      iintro ⟨#HI, H⟩; isplitl [H]; · iexact H
      iexact HI)
  isplitr; · iexact HI
  rw [bigSep_sep']
  isplitl [Ho] <;> iassumption

/-- What a device holds before its first grid point, the slots' memory apart. -/
def enter (c : Dev nD) : sProp 𝕄 :=
  iprop((∃ K, invs m K) ∗ levAts L lv ∗ reached ER (recvCell c) 0
    ∗ barrier c 0 ∗ sendToks c 0 ∗ ownSt m c 0 ∗ locSt c 0 ∗ (bigSep Finset.univ fun s : Fin 4 => sendGh c s 0) ∗ recvGot m c 0)

theorem send_intro (c : Dev nD) :
    iprop((bigSep Finset.univ fun s : Fin 4 => iprop(atPos ER (sendCell c s) 0 ∅ 0 ∗ reached ER (sendCell c s) 0))
        ∗ bigSep Finset.univ fun s : Fin 4 => bigSep (Finset.Ico 0 3) fun r => dutyTok ER (sendCell c s) r (c, 0))
      ⊢ (bigSep Finset.univ fun s : Fin 4 => sendGh c s 0 : sProp 𝕄) := by
  rw [← bigSep_sep']
  refine bigSep_mono fun s _ => ?_
  unfold sendGh
  rw [if_pos (by decide)]
  exact BI.sep_assoc

theorem loc_intro (c : Dev nD) :
    iprop(atPos ER (locCell c) 0 ∅ 0 ∗ reached ER (locCell c) 0 ∗ bigSep (Finset.Ico 0 4) fun r => dutyTok ER (locCell c) r (c, 0))
      ⊢ (locSt c 0 : sProp 𝕄) := by
  unfold locSt; rw [if_pos (by decide)]

theorem recv_intro (c : Dev nD) :
    iprop(atPos ER (recvCell c) 0 ∅ 0 ∗ cred (tallyAt (recvCell c) () (12 * N))) ⊢ (recvGot m c 0 : sProp 𝕄) := by
  unfold recvGot; rw [if_pos (by decide)]
  iintro ⟨Ha, Hc⟩
  iexists ∅
  isplitr; · ipureintro; exact Finset.empty_subset _
  rw [Nat.zero_mul, Nat.sub_zero, bigSep_empty]
  isplitl [Ha]; · iexact Ha
  isplitl [Hc]; · iexact Hc
  iempintro

theorem own_intro (c : Dev nD) : (bigSep Finset.univ fun q : Fin 4 => tileAny c c q) ⊢ (ownSt m c 0 : sProp 𝕄) := by
  unfold ownSt
  exact Entails.of_eq (bigSep_congr fun q _ => by rw [if_neg (Nat.not_lt_zero _)])

theorem bar_intro (c : Dev nD) :
    iprop((bigSep (Finset.univ.erase c) fun d : Dev nD => dutyTok ER (barCell d) 0 (c, 0))
        ∗ (bigSep Finset.univ fun d : Dev nD => reached ER (barCell d) 0)
        ∗ bigSep (Finset.univ.erase c) fun d : Dev nD => bigSep Finset.univ fun q : Fin 4 => tileAny c d q)
      ⊢ (barSt c 0 : sProp 𝕄) := by
  unfold barSt
  rw [sig_zero]
  have h : iprop((bigSep (Finset.univ.erase c) fun d : Dev nD => dutyTok ER (barCell d) 0 (c, 0))
      ∗ (bigSep (Finset.univ.erase c) fun d : Dev nD => reached ER (barCell d) 0)
      ∗ bigSep (Finset.univ.erase c) fun d : Dev nD => bigSep Finset.univ fun q : Fin 4 => tileAny c d q)
      ⊢ (bigSep (Finset.univ.erase c) fun d => sigOne c d : sProp 𝕄) := by
    rw [← bigSep_sep', ← bigSep_sep']
    refine bigSep_mono fun d _ => ?_
    unfold sigOne
    exact BI.sep_assoc'
  refine BIBase.Entails.trans ?_ h
  rw [bigSep_univ_at (fun d : Dev nD => (reached ER (barCell d) 0 : sProp 𝕄)) c]
  iintro ⟨Ht, ⟨-, Hr⟩, Hm⟩
  isplitl [Ht]; · iexact Ht
  isplitl [Hr] <;> iassumption

theorem enter_intro (c : Dev nD) (f : Buf (Elt F) ((c : Thread nD τ).loc main_v15)) :
    iprop(start m c ∗ Pipeline.ownSems0 osem c ∗ levAts L lv ∗ (((c : Thread nD τ).loc main_v15) ↦{fullShare} f))
      ⊢ (|={Set.univ}=> enter m c : sProp 𝕄) := by
  unfold start records payToks enter
  iintro ⟨⟨⟨⟨%K, #HI⟩, #Hbr⟩, HaB, HcB, HcV, Ho, HtB, HtV, HtS, HtL⟩, Hv, #Hlev, Hout⟩
  imod (open_all m K c) $$ [Ho Hv] with Hop
  · isplitl [Ho]; · iexact Ho
    isplitl [Hv]; · iexact Hv
    iexact HI
  ihave Hop := (Entails.of_eq (bigSep_fin6 _)) $$ Hop
  icases Hop with ⟨H0, H1, H2, H3, ⟨HaV, #HrV⟩, ⟨HaL, HrL⟩⟩
  ihave Ht := (out_any c f) $$ Hout
  ihave Ht := (Entails.of_eq (bigSep_univ_at (fun d : Dev nD => bigSep Finset.univ fun q : Fin 4 => (tileAny c d q : sProp 𝕄)) c)) $$ Ht
  icases Ht with ⟨Hown, Hoth⟩
  imodintro
  isplitr; · iexists K; iexact HI
  isplitr; · iexact Hlev
  isplitr; · iexact HrV
  isplitl [HaB HcB HtB Hoth]
  · unfold barrier; rw [if_pos rfl]
    isplitl [HaB]; · iexact HaB
    isplitl [HcB]; · iexact HcB
    iapply (bar_intro c)
    isplitl [HtB]; · iexact HtB
    isplitr; · iexact Hbr
    iexact Hoth
  isplitl [HtV]; · iexact HtV
  isplitl [Hown]; · iapply (own_intro m c); iexact Hown
  isplitl [HaL HrL HtL]
  · iapply (loc_intro c)
    isplitl [HaL]; · iexact HaL
    isplitl [HrL]; · iexact HrL
    iexact HtL
  isplitl [H0 H1 H2 H3 HtS]
  · iapply (send_intro c)
    isplitr [HtS]
    · iapply (Entails.of_eq (bigSep_fin4 (fun s : Fin 4 => iprop(atPos ER (sendCell c s) 0 ∅ 0 ∗ reached ER (sendCell c s) 0))).symm)
      isplitl [H0]; · iexact H0
      isplitl [H1]; · iexact H1
      isplitl [H2]; · iexact H2
      iexact H3
    iexact HtS
  iapply (recv_intro m c)
  isplitl [HaV]; · iexact HaV
  iexact HcV

/-! ## Into the pipeline's invariant and out of it -/

theorem hin (c : Dev nD) :
    iprop(enter m c ∗ Pipeline.prefHeld pre0 c (fun _ => fullShare) (tabPf m c) ∗ Pipeline.scopedRest spec0 c)
      ⊢ (iprop(Inv m c 0 ∗ tab c (tabV m c)) : sProp 𝕄) := by
  rw [held_tab, scopedRest0_eq]
  unfold enter Inv
  iintro ⟨⟨HI, Hlev, Hr, Hb, Ht, Ho, Hl, Hs, Hg⟩, HT, Hscr⟩
  isplitr [HT]
  · isplitl [HI]; · iexact HI
    isplitl [Hlev]; · iexact Hlev
    isplitl [Hr]; · iexact Hr
    isplitl [Hb]; · iexact Hb
    isplitl [Ht]; · iexact Ht
    isplitl [Ho]; · iexact Ho
    isplitl [Hl]; · iexact Hl
    isplitl [Hs Hscr]
    · ihave Hsl := (scr_any c) $$ Hscr
      have h : iprop((bigSep Finset.univ fun s : Fin 4 => slotAny c s) ∗ bigSep Finset.univ fun s : Fin 4 => sendGh c s 0)
          ⊢ (slotsSt c 0 : sProp 𝕄) := by
        rw [← bigSep_sep']
        unfold slotsSt
        refine Entails.of_eq (bigSep_congr fun s _ => ?_)
        have : cnt 0 s = 0 := by unfold cnt; omega
        rw [this]; unfold slotSt; rw [if_pos rfl]
      iapply h
      isplitl [Hsl] <;> iassumption
    iexact Hg
  iexact HT

theorem hout (c : Dev nD) :
    iprop(Inv m c 16 ∗ tab c (tabV m c))
      ⊢ (iprop((semVal (barCell c) 0 ∗ (((c : Thread nD τ).loc main_v15) ↦{fullShare} outFinal m c) ∗ tab c (tabV m c))
          ∗ Pipeline.ownSems0 osem c ∗ Pipeline.scopedRest spec0 c) : sProp 𝕄) := by
  have hslots : (slotsSt c 16 : sProp 𝕄) ⊢ iprop((bigSep Finset.univ fun s : Fin 4 => slotAny c s) ∗ bigSep Finset.univ fun s : Fin 4 => semVal (sendCell c s) 0) := by
    rw [← bigSep_sep']
    unfold slotsSt
    refine Entails.of_eq (bigSep_congr fun s _ => ?_)
    have : cnt 16 s = 4 := by unfold cnt; omega
    rw [this]; unfold slotSt sendGh; rw [if_neg (by decide), if_neg (by decide), if_neg (by decide)]
  have hown : (ownSt m c 4 : sProp 𝕄) ⊢ bigSep Finset.univ fun q : Fin 4 => tileDone m c c q := by
    unfold ownSt
    exact Entails.of_eq (bigSep_congr fun q _ => by rw [if_pos q.isLt])
  have hloc : (locSt c 4 : sProp 𝕄) ⊢ semVal (locCell c) 0 := by unfold locSt; rw [if_neg (by decide)]
  have hgot : (recvGot m c 12 : sProp 𝕄) ⊢ iprop(semVal (recvCell c) 0 ∗ bigSep (recvDuties c) fun dq => tileDone m c dq.1 dq.2) := by
    unfold recvGot; rw [if_neg (by decide)]
  have hbar : (barrier c 16 : sProp 𝕄) ⊢ iprop(semVal (barCell c) 0 ∗ dstSt c 16) := by unfold barrier; rw [if_neg (by decide)]
  rw [scopedRest0_eq]
  unfold Inv
  rw [if_neg (by decide)]
  iintro ⟨⟨-, -, -, Hb, -, Ho, Hl, Hs, Hg⟩, HT⟩
  ihave Hb' := hbar $$ Hb
  icases Hb' with ⟨HsB, -⟩
  ihave Ho' := hown $$ Ho
  ihave Hl' := hloc $$ Hl
  ihave Hs' := hslots $$ Hs
  icases Hs' with ⟨Hsl, HsS⟩
  ihave Hg' := hgot $$ Hg
  icases Hg' with ⟨HsV, Hgot⟩
  isplitl [HsB Ho' Hgot HT]
  · isplitl [HsB]; · iexact HsB
    isplitr [HT]
    · iapply (out_done m c)
      isplitl [Ho'] <;> iassumption
    iexact HT
  isplitl [Hl' HsS HsV]
  · unfold Pipeline.ownSems0
    ihave HsS := (Entails.of_eq (bigSep_fin4 _)) $$ HsS
    iapply (Entails.of_eq (bigSep_fin6 (fun k : Fin 6 => (semVal ((c : Thread nD τ), osem k) 0 : sProp 𝕄))).symm)
    icases HsS with ⟨H0, H1, H2, H3⟩
    isplitl [H0]; · iexact H0
    isplitl [H1]; · iexact H1
    isplitl [H2]; · iexact H2
    isplitl [H3]; · iexact H3
    isplitl [HsV]; · iexact HsV
    iexact Hl'
  iapply (scr_join c (m ((c : Thread nD τ).loc cc0_scratch0)))
  iexact Hsl

end Cert.KernelIdeal.Talk

end
-- ==== Proof.KernelIdeal.Segment.lean ====
/-
# The kernel's call as a segment of the program

The call is entered with every buffer as the host's operations left it, and is left with the result written.
-/
module

public import proofs.«01_k».proof.Proof.KernelIdeal.Region

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers that the call touches -/

theorem V7_arg0 (c : Dev nD) : (V7 m c main_arg0 : Buf (Elt F) ((c : Thread nD τ).loc main_arg0)) = m ((c : Thread nD τ).loc main_arg0) :=
  ((V8_of m (outs m) c _ (by decide)).symm.trans (V8_main_arg0 m (outs m) c) : _)
theorem V7_arg1 (c : Dev nD) : (V7 m c main_arg1 : Buf (Elt F) ((c : Thread nD τ).loc main_arg1)) = m ((c : Thread nD τ).loc main_arg1) :=
  ((V8_of m (outs m) c _ (by decide)).symm.trans (V8_main_arg1 m (outs m) c) : _)
theorem V8_table (c : Dev nD) : (V8 m (outs m) c main_v14 : Buf (Elt F) ((c : Thread nD τ).loc main_v14)) = tabV m c :=
  V8_of m (outs m) c _ (by decide)

theorem held_in (c : Dev nD) :
    (StableHlo.held (c : Thread nD τ) (Pipeline.ucRefs τ sig) (V7 m c) : sProp 𝕄)
      = iprop(((((c : Thread nD τ).loc main_arg0) ↦{fullShare} m ((c : Thread nD τ).loc main_arg0))
          ∗ (((c : Thread nD τ).loc main_arg1) ↦{fullShare} m ((c : Thread nD τ).loc main_arg1))
          ∗ (((c : Thread nD τ).loc main_v14) ↦{fullShare} tabV m c) ∗ (((c : Thread nD τ).loc main_v15) ↦{fullShare} V7 m c main_v15))
        ∗ StableHlo.held (c : Thread nD τ) others (V7 m c)) := by
  rw [held_sort, V7_arg0, V7_arg1]; rfl

theorem held_out (c : Dev nD) :
    (StableHlo.held (c : Thread nD τ) (Pipeline.ucRefs τ sig) (V8 m (outs m) c) : sProp 𝕄)
      = iprop(((((c : Thread nD τ).loc main_arg0) ↦{fullShare} m ((c : Thread nD τ).loc main_arg0))
          ∗ (((c : Thread nD τ).loc main_arg1) ↦{fullShare} m ((c : Thread nD τ).loc main_arg1))
          ∗ (((c : Thread nD τ).loc main_v14) ↦{fullShare} tabV m c) ∗ (((c : Thread nD τ).loc main_v15) ↦{fullShare} outFinal m c))
        ∗ StableHlo.held (c : Thread nD τ) others (V7 m c)) := by
  rw [held_sort, V8_main_arg0, V8_main_arg1, V8_table, V8_result, held_others]

/-- Both windows are read only. -/
theorem win_in : ∀ w : Fin 2, (spec0 w).isOut = false := by decide

theorem arrays_at (c : Dev nD) (n : ℕ) :
    ((dat m c).arrays ((dat m c).arrAt · n) : sProp 𝕄)
      = iprop((((c : Thread nD τ).loc main_arg0) ↦{fullShare} m ((c : Thread nD τ).loc main_arg0))
          ∗ (((c : Thread nD τ).loc main_arg1) ↦{fullShare} m ((c : Thread nD τ).loc main_arg1))) := by
  have h (w : Fin 2) : (dat m c).arrAt w n = datA m c w := (dat m c).arrAt_in w (win_in w) n
  refine (Pipeline.PerCore.arrays_eq (fun c p => cfgAt m c p) (pdats m) 0 c (fun w => arr_whole0 w) (fun w => ite_self _) _).trans ?_
  rw [bigSep_W0]
  show iprop((((c : Thread nD τ).loc main_arg0) ↦{fullShare} (dat m c).arrAt 0 n) ∗ (((c : Thread nD τ).loc main_arg1) ↦{fullShare} (dat m c).arrAt 1 n)) = _
  rw [h, h]; rfl

/-! ## The segment -/

theorem hentry (c : Dev nD) :
    iprop((StableHlo.held (c : Thread nD τ) (Pipeline.ucRefs τ sig) (V7 m c) ∗ E m 0 c) ∗ Pipeline.ownSems0 osem c ∗ levAts L lv)
      ⊢ (|={Set.univ}=> iprop((dat m c).arrays ((dat m c).arrAt · 0) ∗ Pipeline.prefHeld pre0 c (fun _ => fullShare) (tabPf m c)
        ∗ (dat m c).owesAt () 0 ∗ enter m c ∗ StableHlo.held (c : Thread nD τ) others (V7 m c)) : sProp 𝕄) := by
  rw [held_in, held_tab, arrays_at]
  show iprop(((((((c : Thread nD τ).loc main_arg0) ↦{fullShare} m ((c : Thread nD τ).loc main_arg0))
          ∗ (((c : Thread nD τ).loc main_arg1) ↦{fullShare} m ((c : Thread nD τ).loc main_arg1))
          ∗ (tab c (tabV m c)) ∗ (((c : Thread nD τ).loc main_v15) ↦{fullShare} V7 m c main_v15))
        ∗ StableHlo.held (c : Thread nD τ) others (V7 m c)) ∗ (start m c ∗ owesE c (owedAt c 0))) ∗ Pipeline.ownSems0 osem c ∗ levAts L lv) ⊢ _
  iintro ⟨⟨⟨⟨H0, H1, HT, Hout⟩, Hr⟩, Hst, HO⟩, Hv, Hlev⟩
  imod (enter_intro m c _) $$ [Hst Hv Hlev Hout] with He
  · isplitl [Hst]; · iexact Hst
    isplitl [Hv]; · iexact Hv
    isplitl [Hlev]; · iexact Hlev
    iexact Hout
  imodintro
  isplitl [H0 H1]
  · isplitl [H0]; · iexact H0
    iexact H1
  isplitl [HT]; · iexact HT
  isplitl [HO]; · iapply (owesAt_from m c 0); iexact HO
  isplitl [He]; · iexact He
  iexact Hr

theorem hexit (c : Dev nD) :
    iprop((dat m c).arrays ((dat m c).arrAt · grid0.N) ∗ (dat m c).owesAt () (Fin.last grid0.N)
        ∗ (semVal (barCell c) 0 ∗ (((c : Thread nD τ).loc main_v15) ↦{fullShare} outFinal m c) ∗ tab c (tabV m c))
        ∗ StableHlo.held (c : Thread nD τ) others (V7 m c))
      ⊢ (|={Set.univ}=> iprop(StableHlo.held (c : Thread nD τ) (Pipeline.ucRefs τ sig) (V8 m (outs m) c) ∗ E m 1 c) : sProp 𝕄) := by
  have hN : grid0.N = 16 := by decide
  have hO : ((dat m c).owesAt () (Fin.last grid0.N) : sProp 𝕄) ⊢ owesE c 0 := by
    refine (owesAt_to m c (Fin.last grid0.N)).trans (Entails.of_eq ?_)
    rw [show owedAt c (Fin.last grid0.N).val = 0 from by
      show owedAt c grid0.N = 0
      rw [hN]; unfold owedAt; rw [if_neg (by decide)]; exact recvOwed_late c (by decide)]
  rw [held_out, arrays_at]
  show _ ⊢ (|={Set.univ}=> iprop((((((c : Thread nD τ).loc main_arg0) ↦{fullShare} m ((c : Thread nD τ).loc main_arg0))
          ∗ (((c : Thread nD τ).loc main_arg1) ↦{fullShare} m ((c : Thread nD τ).loc main_arg1))
          ∗ (tab c (tabV m c)) ∗ (((c : Thread nD τ).loc main_v15) ↦{fullShare} outFinal m c))
        ∗ StableHlo.held (c : Thread nD τ) others (V7 m c)) ∗ (semVal (barCell c) 0 ∗ owesE c 0)) : sProp 𝕄)
  iintro ⟨⟨H0, H1⟩, HO, ⟨Hb, Hout, HT⟩, Hr⟩
  imodintro
  isplitr [Hb HO]
  · isplitr [Hr]
    · isplitl [H0]; · iexact H0
      isplitl [H1]; · iexact H1
      isplitl [HT]; · iexact HT
      iexact Hout
    iexact Hr
  isplitl [Hb]; · iexact Hb
  iapply hO; iexact HO

theorem own_sems : Pipeline.OwnSemFacts spec0 osem := by decide

theorem stage_ne (c : Dev nD) : ∀ (w : Fin 2) (s : Fin (spec0 w).nbuf), SemLoc.dma ((spec0 w).sem s) ≠ (SemLoc.dma recvS : SemLoc sig) := by decide

def seg : Pipeline.PerCore.RegionSeg (pcfgs (F := F)) (adm m) (pdats m) () defs₀ 𝒱₀ L lv 0 where
  win := launch0.win.to₀
  block_pos := block_pos0
  stage_whole := stage_whole0
  K := Fin 6
  osem := osem
  ho := own_sems
  hbody c := (body_at m c).loose
  hwaits c := Pipeline.PerCore.cellsWaits_intro (cfgAt m) (pdats m) () 0 c fun w s t => mayWait_dma c t.val _ (stage_ne c w s)
  pre c := iprop(StableHlo.held (c : Thread nD τ) (Pipeline.ucRefs τ sig) (V7 m c) ∗ E m 0 c)
  post c := iprop(StableHlo.held (c : Thread nD τ) (Pipeline.ucRefs τ sig) (V8 m (outs m) c) ∗ E m 1 c)
  X c := enter m c
  Y c := iprop(semVal (barCell c) 0 ∗ (((c : Thread nD τ).loc main_v15) ↦{fullShare} outFinal m c) ∗ tab c (tabV m c))
  Z c := StableHlo.held (c : Thread nD τ) others (V7 m c)
  hentry := hentry m
  hin := hin m
  hout := hout m
  hexit := hexit m

end Cert.KernelIdeal.Talk

end
-- ==== Proof.KernelIdeal.Launch.lean ====
/-
# The launch

What the launch deals to the devices: the cells' invariants to all of them, each device's positions and rights to its own
cells, the tokens of the duties that it pays, and the credit for what the others owe it.
-/
module

public import proofs.«01_k».proof.Proof.KernelIdeal.Segment
public import Idealize.ShloMosaic.Lib.Pipeline.RegionTalk
public import Idealize.ShloMosaic.Harness.Basic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tokens -/

/-- A device's duties: at a barrier cell, at a receive cell, at a slot's send cell, at its local cell. -/
abbrev Pay := Dev nD ⊕ Duty ⊕ (Fin 4 × Fin 3) ⊕ Fin 4

def tokOf (c : Dev nD) : Pay → GSem nD τ sig × ℕ × Duty
  | .inl d => (barCell d, 0, (c, 0))
  | .inr (.inl dq) => (recvCell dq.1, 0, (c, dq.2))
  | .inr (.inr (.inl sr)) => (sendCell c sr.1, sr.2.val, (c, 0))
  | .inr (.inr (.inr k)) => (locCell c, k.val, (c, 0))

theorem tokOf_payer (c : Dev nD) (x : Pay) : (tokOf c x).2.2.1 = c := by
  rcases x with d | dq | sr | k <;> rfl

theorem send_inj : ∀ s s' : Fin 4, (SemLoc.dma (sendS s) : SemLoc sig) = .dma (sendS s') → s = s' := by decide +kernel

theorem tokOf_inj (c : Dev nD) : Function.Injective (tokOf c) := fun x y h => by
  have h1 := congrArg (fun t : GSem nD τ sig × ℕ × Duty => t.1.2) h
  have h0 := congrArg (fun t : GSem nD τ sig × ℕ × Duty => t.1.1.1) h
  have h2 := congrArg (fun t : GSem nD τ sig × ℕ × Duty => t.2.1) h
  have h3 := congrArg (fun t : GSem nD τ sig × ℕ × Duty => t.2.2.2) h
  rcases x with d | dq | sr | k <;> rcases y with d' | dq' | sr' | k' <;> dsimp only [tokOf] at h0 h1 h2 h3
  · rw [h0]
  · exact absurd h1.symm recv_ne_bar
  · exact absurd h1.symm (send_ne_bar _)
  · exact absurd h1.symm loc_ne_bar
  · exact absurd h1 recv_ne_bar
  · rw [Prod.ext (x := dq) (y := dq') h0 h3]
  · exact absurd h1.symm (send_ne_recv _)
  · exact absurd h1.symm loc_ne_recv
  · exact absurd h1 (send_ne_bar _)
  · exact absurd h1 (send_ne_recv _)
  · rw [Prod.ext (x := sr) (y := sr') (send_inj _ _ h1) (Fin.ext h2)]
  · exact absurd h1 (send_ne_loc _)
  · exact absurd h1 loc_ne_bar
  · exact absurd h1 loc_ne_recv
  · exact absurd h1.symm (send_ne_loc _)
  · rw [Fin.ext h2]

def talkToks : Finset (GSem nD τ sig × ℕ × Duty) :=
  Finset.univ.map ⟨fun cx : Dev nD × Pay => tokOf cx.1 cx.2, fun a b h => by
    have hc : a.1 = b.1 := by
      rw [← tokOf_payer a.1 a.2, ← tokOf_payer b.1 b.2]; exact congrArg (fun t : GSem nD τ sig × ℕ × Duty => t.2.2.1) h
    have h' : tokOf a.1 a.2 = tokOf b.1 b.2 := h
    exact Prod.ext hc (tokOf_inj a.1 (by rw [h', hc]))⟩

theorem bigSep_Ico3 (Φ : ℕ → sProp 𝕄) : (bigSep Finset.univ fun r : Fin 3 => Φ r.val) = bigSep (Finset.Ico 0 3) Φ := by
  have h : (Finset.Ico 0 3 : Finset ℕ) = Finset.univ.map Fin.valEmbedding (α := Fin 3) := by decide
  rw [h, bigSep_map]; rfl
theorem bigSep_Ico4 (Φ : ℕ → sProp 𝕄) : (bigSep Finset.univ fun r : Fin 4 => Φ r.val) = bigSep (Finset.Ico 0 4) Φ := by
  have h : (Finset.Ico 0 4 : Finset ℕ) = Finset.univ.map Fin.valEmbedding (α := Fin 4) := by decide
  rw [h, bigSep_map]; rfl

theorem pay_toks (c : Dev nD) :
    (bigSep Finset.univ fun x : Pay => dutyTok ER (tokOf c x).1 (tokOf c x).2.1 (tokOf c x).2.2 : sProp 𝕄) ⊢ payToks c := by
  rw [bigSep_univ_sum, bigSep_univ_sum, bigSep_univ_sum]
  show iprop((bigSep Finset.univ fun d : Dev nD => dutyTok ER (barCell d) 0 (c, 0))
      ∗ (bigSep Finset.univ fun dq : Duty => dutyTok ER (recvCell dq.1) 0 (c, dq.2))
      ∗ (bigSep Finset.univ fun sr : Fin 4 × Fin 3 => dutyTok ER (sendCell c sr.1) sr.2.val (c, 0))
      ∗ (bigSep Finset.univ fun k : Fin 4 => dutyTok ER (locCell c) k.val (c, 0))) ⊢ payToks c
  have hs : (bigSep Finset.univ fun sr : Fin 4 × Fin 3 => (dutyTok ER (sendCell c sr.1) sr.2.val (c, 0) : sProp 𝕄))
      = bigSep Finset.univ fun s : Fin 4 => bigSep (Finset.Ico 0 3) fun r => dutyTok ER (sendCell c s) r (c, 0) := by
    rw [bigSep_univ_prod]
    exact bigSep_congr fun s _ => bigSep_Ico3 fun r => dutyTok ER (sendCell c s) r (c, 0)
  have hr : (bigSep Finset.univ fun dq : Duty => (dutyTok ER (recvCell dq.1) 0 (c, dq.2) : sProp 𝕄))
      = iprop((bigSep (rem c 0) fun dq : Duty => dutyTok ER (recvCell dq.1) 0 (c, dq.2))
        ∗ bigSep (Finset.univ \ rem c 0) fun dq : Duty => dutyTok ER (recvCell dq.1) 0 (c, dq.2)) :=
    bigSep_sdiff_split (Finset.subset_univ (rem c 0))
  rw [hs, bigSep_Ico4 fun r => dutyTok ER (locCell c) r (c, 0), bigSep_univ_at (fun d : Dev nD => (dutyTok ER (barCell d) 0 (c, 0) : sProp 𝕄)) c,
    hr]
  unfold payToks sendToks
  iintro ⟨⟨-, Hb⟩, ⟨Hr, -⟩, Hs, Hl⟩
  isplitl [Hb]; · iexact Hb
  isplitl [Hr]; · iexact Hr
  isplitl [Hs]; · iexact Hs
  iexact Hl

theorem deal_toks : bigSep talkToks (fun x => (dutyTok ER x.1 x.2.1 x.2.2 : sProp 𝕄)) ⊢ bigSep Finset.univ fun c : Dev nD => payToks c := by
  unfold talkToks; rw [bigSep_map, bigSep_univ_prod]
  exact bigSep_mono fun c _ => pay_toks c

/-! ## The credit -/

theorem tally_recv (c : Dev nD) : ∀ s : Finset Duty,
    (∑ dq ∈ s, tallyAt (recvCell dq.1) () N : CellTallies nD τ sig Unit) (recvCell c) () = N * (s.filter fun dq => dq.1 = c).card := fun s => by
  classical
  induction s using Finset.induction_on with
  | empty => rfl
  | insert dq s hs ih =>
    rw [Finset.sum_insert hs, Pi.add_apply, Finsupp.add_apply, ih, tallyAt_apply, Finset.filter_insert]
    by_cases h : dq.1 = c
    · rw [if_pos ⟨by rw [h], rfl⟩, if_pos h, Finset.card_insert_of_notMem (fun hm => hs (Finset.mem_filter.mp hm).1)]
      rw [Nat.mul_add, Nat.mul_one, Nat.add_comm]
    · rw [if_neg (fun hh => h (congrArg (fun g : GSem nD τ sig => g.1.1) hh.1).symm), if_neg h, Nat.zero_add]

theorem tally_bar (c : Dev nD) : ∀ s : Finset (Dev nD),
    (∑ d ∈ s, tallyAt (barCell d) () 1 : CellTallies nD τ sig Unit) (barCell c) () = (s.filter fun d => d = c).card := fun s => by
  classical
  induction s using Finset.induction_on with
  | empty => rfl
  | insert d s hs ih =>
    rw [Finset.sum_insert hs, Pi.add_apply, Finsupp.add_apply, ih, tallyAt_apply, Finset.filter_insert]
    by_cases h : d = c
    · rw [if_pos ⟨by rw [h], rfl⟩, if_pos h, Finset.card_insert_of_notMem (fun hm => hs (Finset.mem_filter.mp hm).1)]
      rw [Nat.add_comm]
    · rw [if_neg (fun hh => h (congrArg (fun g : GSem nD τ sig => g.1.1) hh.1).symm), if_neg h, Nat.zero_add]

theorem tally_none {I : Type} {f : I → GSem nD τ sig} {k : ℕ} {g : GSem nD τ sig} (s : Finset I) (h : ∀ i, g ≠ f i) :
    (∑ i ∈ s, tallyAt (f i) () k : CellTallies nD τ sig Unit) g () = 0 := by
  by_contra hh
  obtain ⟨i, -, e⟩ := tally_sum_pos (Nat.pos_of_ne_zero hh)
  exact h i e

theorem recv_count : ∀ c d : Dev nD, ((rem d 0).filter fun dq => dq.1 = c).card = if d = c then 0 else 4 := by decide +kernel
theorem bar_count : ∀ c d : Dev nD, ((sig' d 0).filter fun e => e = c).card = if d = c then 0 else 1 := by decide +kernel
theorem recv_total : ∀ c : Dev nD, (∑ d : Dev nD, if d = c then 0 else 4) = 12 := by decide +kernel
theorem bar_total : ∀ c : Dev nD, (∑ d : Dev nD, if d = c then 0 else 1) = 3 := by decide +kernel

/-- What a device owes at the launch: its landings and its barrier units. -/
def O₀ (c : Dev nD) : CellTallies nD τ sig Unit := owedAt c 0

theorem owed_recv (d c : Dev nD) : O₀ d (recvCell c) () = N * (if d = c then 0 else 4) := by
  unfold O₀ owedAt recvOwed barOwed
  rw [if_pos rfl, Pi.add_apply, Finsupp.add_apply, tally_recv, recv_count,
    tally_none _ (fun e h => recv_ne_bar (congrArg Prod.snd h)), Nat.add_zero]
theorem owed_bar (d c : Dev nD) : O₀ d (barCell c) () = if d = c then 0 else 1 := by
  unfold O₀ owedAt recvOwed barOwed
  rw [if_pos rfl, Pi.add_apply, Finsupp.add_apply, tally_bar, bar_count,
    tally_none _ (fun e h => recv_ne_bar (congrArg Prod.snd h).symm), Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, bar_total]
theorem launch_recv (c : Dev nD) :
    tallyOn (recvCell c) (launchCredit (Pipeline.owing O₀) 0 (recvCell c)) = (tallyAt (recvCell c) () (12 * N) : CellTallies nD τ sig Unit) := by
  unfold tallyAt; refine congrArg _ (Finsupp.ext fun u => ?_); cases u
  rw [Pipeline.launchCredit_owing, Finsupp.single_eq_same, Finset.sum_congr rfl fun d _ => owed_recv d c, ← Finset.mul_sum, recv_total, Nat.mul_comm]

theorem creds (c : Dev nD) :
    (Pipeline.launchCred O₀ c : sProp 𝕄) ⊢ iprop(cred (tallyAt (barCell c) () 3) ∗ cred (tallyAt (recvCell c) () (12 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## What the launch deals -/

/-- A resource dealt whole to device 0. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def dealt : Dev nD → sProp 𝕄 := onZero (BI.own (ER (launchOf barCells scCells talkToks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What stays with device `c` of the protocol's ghost state. -/
def linear (c : Dev nD) : sProp 𝕄 :=
  iprop(atPos ER (barCell c) 0 ∅ 0 ∗ (bigSep Finset.univ fun k : Fin 6 => openTok ER ((c : Thread nD τ), osem k)) ∗ payToks c)

/-- The rest of what the launch deals to device `c`. -/
def bundle (c : Dev nD) : sProp 𝕄 :=
  iprop(StableHlo.held (c : Thread nD τ) (Pipeline.ucRefs τ sig) (V0 m c) ∗ cred (tallyAt (barCell c) () 3)
    ∗ cred (tallyAt (recvCell c) () (12 * N)) ∗ owes (c : Thread nD τ) (O₀ c) ∅)

abbrev T₀ (c : Dev nD) : sProp 𝕄 := iprop(StableHlo.held (c : Thread nD τ) (Pipeline.ucRefs τ sig) (V0 m c) ∗ E m 0 c)

theorem T₀_intro (c : Dev nD) : iprop(records m ∗ (linear c ∗ bundle m c)) ⊢ T₀ m c := by
  show _ ⊢ iprop(StableHlo.held (c : Thread nD τ) (Pipeline.ucRefs τ sig) (V0 m c) ∗ (start m c ∗ owesE c (owedAt c 0)))
  unfold bundle linear start owesE
  iintro ⟨#HR, ⟨Ha, Ho, Ht⟩, Hh, H1, HN, HO⟩
  isplitl [Hh]; · iexact Hh
  isplitr [HO]
  · isplitr; · iexact HR
    isplitl [Ha]; · iexact Ha
    isplitl [H1]; · iexact H1
    isplitl [HN]; · iexact HN
    isplitl [Ho]; · iexact Ho
    iexact Ht
  iexists ∅; iexact HO

theorem deal_core (ρ : Dev nD → PrngReg) (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ dealt c)
      ⊢ (iprop(bundle m c ∗ (semVal (barCell c) 0 ∗ dealt c)) : sProp 𝕄) := by
  rw [show (unscopedBufs c (fun b => m ((c : Thread nD τ).loc b)) : sProp 𝕄) = StableHlo.held (c : Thread nD τ) (Pipeline.ucRefs τ sig) (V0 m c)
      from Pipeline.unscopedBufs_held c (V0 m c), unscopedSems_eq]
  unfold bundle
  iintro ⟨Hh, Hus, HO, Hcr, -, HG⟩
  ihave Hc := (creds (F := F) c) $$ Hcr
  icases Hc with ⟨H1, HN⟩
  isplitl [Hh H1 HN HO]
  · isplitl [Hh]; · iexact Hh
    isplitl [H1]; · iexact H1
    isplitl [HN]; · iexact HN
    iexact HO
  isplitl [Hus]; · iexact Hus
  iexact HG

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep scCells (fun g => (openTok ER g : sProp 𝕄))
      ⊢ bigSep Finset.univ (fun c : Dev nD => bigSep Finset.univ fun k : Fin 6 => (openTok ER ((c : Thread nD τ), osem k) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt c))
      ⊢ (bigSep Finset.univ fun c : Dev nD => iprop(bundle m c ∗ (semVal (barCell c) 0 ∗ dealt c)) : sProp 𝕄) from bigSep_mono fun c _ => deal_core m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (dealt (F := F)) ⊢ BI.own (ER (launchOf barCells scCells talkToks)) from
    Entails.of_eq (bigSep_onZero (F := F) (BI.own (ER (launchOf barCells scCells talkToks))))) $$ HG
  imod (Rounds.fund_launch ER (talkRd m) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m) (Φ := fun c => iprop(linear c ∗ bundle m c)) fun c _ => T₀_intro m c)
  isplitr
  · unfold records invs
    isplitr; · iexists κ; iexact Hinv
    iapply hr; iexact Hr
  iapply (Entails.of_eq (bigSep_sep' Finset.univ (fun c : Dev nD => linear (F := F) c) (fun c => bundle m c)).symm)
  isplitr [HB]
  · unfold linear
    iapply (Entails.of_eq (bigSep_sep' _ _ _).symm)
    isplitl [Hat]; · iapply hat; iexact Hat
    iapply (Entails.of_eq (bigSep_sep' _ _ _).symm)
    isplitl [Hopen]; · iapply hopen; iexact Hopen
    iapply (deal_toks (F := F)); iexact Htok
  iexact HB

end Cert.KernelIdeal.Talk

end
-- ==== Proof.KernelIdeal.Main.lean ====
/-
# The run

From any memory with zero counters, every execution of the program on the four devices ends, with the arguments as they
were, the result filled on every device, and every counter at zero.
-/
module

public import proofs.«01_k».proof.Proof.KernelIdeal.Launch

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program's items on device `c`: the host's operations, then the kernel's call. -/
def items (c : Dev nD) : List (Pipeline.PerCore.Seg (pcfgs (F := F)) (adm m) (pdats m) () defs₀ 𝒱₀ L lv) :=
  [.host (seg0 m 𝒱₀ L lv (E m) c), .host (seg1 m 𝒱₀ L lv (E m)), .host (seg2 m 𝒱₀ L lv (E m)), .host (seg3 m 𝒱₀ L lv (E m)),
    .host (seg4 m 𝒱₀ L lv (E m)), .host (seg5 m 𝒱₀ L lv (E m)), .host (seg6 m 𝒱₀ L lv (E m)), .region (seg m)]

theorem stage_sems : Pipeline.SpecSemsDistinct spec0 := by decide

theorem cells_inj : Function.Injective (Pipeline.PerCore.cellOf (nD := nD) (τ := τ) (Pipeline.pinD (pcfgs (F := F)) (adm m))) :=
  Pipeline.PerCore.cellOf_injective _ (fun _ p => match p with | 0 => stage_sems) fun _ p p' h => absurd (Subsingleton.elim p p') h

/-- What the launch starts from. -/
def u₀ : UU :=
  (initOf (Pipeline.PerCore.cells (Pipeline.pinD (pcfgs (F := F)) (adm m)) (cells_inj m))
      (Pipeline.PerCore.launchToks (Pipeline.pinD (pcfgs (F := F)) (adm m)) (cells_inj m)),
    launchOf barCells scCells talkToks)

/-- What a device ends with. -/
abbrev Tₙ (c : Dev nD) : sProp 𝕄 :=
  iprop(StableHlo.held (c : Thread nD τ) (Pipeline.ucRefs τ sig) (V8 m (outs m) c) ∗ semVal (barCell c) 0)

theorem unscoped_bar : ∀ sm : SemLoc sig, sm.isScoped .tc = false → sm = .reg barS := by decide

theorem read_end (c : Dev nD) (s' : Phys nD τ sig (Elt F)) :
    iprop(Tₙ m c ∗ SI s') ⊢ (|={Set.univ}=> iprop(⌜(s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_v15) = outFinal m c) ∧ s'.mem.sem (barCell c) = 0⌝ ∗ SI s') : sProp 𝕄) := by
  have hm (b : Ref sig .tc) (hb : ¬ (Proc.devRef .tc b : DevRef τ sig).isScoped) : dref b ∈ Pipeline.ucRefs τ sig :=
    Finset.mem_filter.mpr ⟨StableHlo.devRef_mem_tcRefs b, hb⟩
  unfold Tₙ StableHlo.held
  iintro ⟨⟨Hh, Hb⟩, HSI⟩
  icombine HSI Hb gives %hb
  ihave Hr := (pointsTo_read_all (Pipeline.ucRefs τ sig) (fun b => ((c : Thread nD τ).1, b)) (V8 m (outs m) c) s') $$ [Hh HSI]
  · isplitl [Hh]; · iexact Hh
    iexact HSI
  icases Hr with ⟨%h, HSI⟩
  imodintro
  isplitr
  · ipureintro
    exact ⟨⟨(h (dref main_arg0) (hm _ (by decide))).trans (V8_main_arg0 m (outs m) c), (h (dref main_arg1) (hm _ (by decide))).trans (V8_main_arg1 m (outs m) c),
      (h (dref main_v15) (hm _ (by decide))).trans (V8_result m c)⟩, by simpa using hb⟩
  iexact HSI

set_option backward.isDefEq.respectTransparency.types false in
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v15) = outFinal m c) ∧ r.2.sem = fun _ => 0) := by
  refine Pipeline.PerCore.θ_run_regions_kit_sems (pcfgs (F := F)) (adm m) (pdats m) () (cells_inj m) EP defs₀ 𝒱₀ L lv m ρ main (items m)
    (fun c Q => by
      rewrite [main_chain c, Pipeline.PerCore.Seg.run_eq_chain,
        show (items m c).map Pipeline.PerCore.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := O₀) (hL := L_of_ne) (G := dealt) (u₀ := u₀ m)
    (hu₀ := by
      unfold u₀ dealt
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := fun c => ⟨.rfl, .rfl, .rfl, .rfl, .rfl, .rfl, .rfl, .rfl, ?_⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v15) = outFinal m c) ∧ s.sem (barCell c) = 0)
    (hfin := read_end m)
    (hQ := fun s h hs => ⟨fun c => (h c).1, sem_eq_zero hs fun c sm hsm => by
      obtain rfl := unscoped_bar sm hsm
      exact (h c).2⟩)
  show iprop(StableHlo.held (c : Thread nD τ) (Pipeline.ucRefs τ sig) (V8 m (outs m) c) ∗ (semVal (barCell c) 0 ∗ owesE c 0))
    ⊢ iprop(Tₙ m c ∗ ∃ W, owes (c : Thread nD τ) (0 : CellTallies nD τ sig Unit) W)
  unfold owesE
  iintro ⟨Hh, Hb, HO⟩
  isplitr [HO]
  · isplitl [Hh]; · iexact Hh
    iexact Hb
  iexact HO

end Cert.KernelIdeal.Talk

end
-- ==== Proof.Value.lean ====
/-
# The value

Over the extended reals, read entry by entry: what the program leaves in each device's result is that device's block of
columns of the reference's result.

Entry (r, l) of the tile that device `d` computes against column block `p` is the sum over k of x_d(r, k) w(k, 512 p + l), or
zero if that is negative.  Device `e`'s result holds at (i, j) the entry (i mod 1024, j mod 512) of the tile of device
i / 1024 against column block 4 e + j / 512: the rows of x_d are the rows 1024 d + r of the whole array, and the column is
2048 e + j.  So the entry is the reference's at (i, 2048 e + j).
-/
module

public import proofs.«01_k».proof.Proof.KernelIdeal.Cells
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.Pipeline.Value
public import Idealize.ShloMosaic.Lib.Layout

@[expose] public section

noncomputable section

namespace Cert.Proof.Value

open Idealize.ShloMosaic hiding ix2 ix3 eq_ix2 maximumf_apply constant_apply
open Idealize.ShloMosaic.TcCoe Idealize.ShloMosaic.ValueIdx
open Cert.KernelIdeal Cert.KernelIdeal.Gen Cert.KernelIdeal.Talk
open scoped BigOperators

variable (m : (ℓ : Loc nD τ sig) → Buf (Elt Ideal) ℓ)

/-- Device `c`'s rows of `x`, and its copy of `w`. -/
abbrev xAt (c : Dev nD) : FVec Ideal S1024x4096 .f32 := m ((c : Thread nD τ).loc main_arg0)
abbrev wAt (c : Dev nD) : FVec Ideal S4096x8192 .f32 := m ((c : Thread nD τ).loc main_arg1)

theorem dot_eq : dot_S1024x4096_S4096x512_S1024x512_1_0_0_1_n_n = DotDims.plain 1024 4096 512 := rfl

/-- The kernel's arithmetic at an entry, of any rows and any columns. -/
theorem pay_apply (x : FVec Ideal S1024x4096 .f32) (w : FVec Ideal S4096x512 .f32) (u : Fin 1) (r : Fin 1024) (l : Fin 512) :
    k0_pay1 (k0_pay2 x) w (ix3 u r l) = max (∑ k : Fin 4096, x (ix2 r k) * w (ix2 k l)) 0 := by
  unfold k0_pay1 k0_pay2
  dsimp only
  rw [shapeCast_ab_1ab_apply, shapeCast_self, shapeCast_self, maximumf_apply, dot_eq]
  unfold matmul
  rw [Ideal.matmul_plain_apply, constant_apply, Ideal.ofBits_zero_f32, zero_add]
  exact congrArg (max _) Ideal.ofBits_zero_f32

/-- A tile at an entry. -/
theorem tileVal_apply (c : Dev nD) (p : ℕ) (r : Fin 1024) (l : Fin 512) :
    tileVal m c p (ix2 r l)
      = max (∑ k : Fin 4096, xAt m c (ix2 r k) * wAt m c (ix2 k ⟨(512 * p + l.val) % 8192, Nat.mod_lt _ (by decide)⟩)) 0 := by
  unfold tileVal stored
  rw [shapeCast_1ab_ab_apply, pay_apply]
  rfl

/-- The reference's result, of the whole arrays. -/
def refOut (X : FVec Ideal Cert.ReferenceIdeal.S4096x4096 .f32) (W : FVec Ideal Cert.ReferenceIdeal.S4096x8192 .f32) :
    FVec Ideal Cert.ReferenceIdeal.S4096x8192 .f32 :=
  maximumf (Host.dotGeneral Cert.ReferenceIdeal.dot_S4096x4096_S4096x8192_S4096x8192_1_0_0_1_n_n none X W)
    (broadcastInDim Cert.ReferenceIdeal.S4096x8192 ![] Cert.ReferenceIdeal.Gen.bcast_S_S4096x8192
      (constant Cert.ReferenceIdeal.S_ .f32 0x00000000#32))

theorem refDot_eq :
    Cert.ReferenceIdeal.dot_S4096x4096_S4096x8192_S4096x8192_1_0_0_1_n_n = DotDims.plain 4096 4096 8192 := rfl

/-- The reference's result at an entry. -/
theorem refOut_apply (X : FVec Ideal Cert.ReferenceIdeal.S4096x4096 .f32) (W : FVec Ideal Cert.ReferenceIdeal.S4096x8192 .f32)
    (r : Fin 4096) (s : Fin 8192) :
    refOut X W (ix2 r s) = max (∑ k : Fin 4096, X (ix2 r k) * W (ix2 k s)) 0 := by
  unfold refOut
  rw [maximumf_apply, refDot_eq, StackMember.dotGeneral_plain_apply]
  exact congrArg (max _) Ideal.ofBits_zero_f32

/-- **The value equation**: where each device holds its rows of `X` and all of `W`, device `e`'s result is its block of columns
    of the reference's. -/
theorem outFinal_eq (X : FVec Ideal Cert.ReferenceIdeal.S4096x4096 .f32) (W : FVec Ideal Cert.ReferenceIdeal.S4096x8192 .f32)
    (hx : ∀ c : Dev nD, xAt m c = Layout.block ⟨2, ![1024, 4096]⟩ ⟨2, ![4096, 4096]⟩ 0 4 c X) (hw : ∀ c : Dev nD, wAt m c = W)
    (e : Dev nD) :
    outFinal m e = Layout.block ⟨2, ![4096, 2048]⟩ ⟨2, ![4096, 8192]⟩ 1 4 e (refOut X W) := by
  funext i
  obtain ⟨r, s, rfl⟩ : ∃ (r : Fin 4096) (s : Fin 2048), i = ix2 r s := ⟨i 0, i 1, eq_ix2 i⟩
  have he : e.val < 4 := e.isLt
  have hr : r.val < 4096 := r.isLt
  have hs : s.val < 2048 := s.isLt
  have hcol : 2048 * e.val + s.val < 8192 := by omega
  have hb : Layout.block ⟨2, ![4096, 2048]⟩ ⟨2, ![4096, 8192]⟩ 1 4 e (refOut X W) (by decide) (ix2 r s)
      = refOut X W (ix2 r ⟨2048 * e.val + s.val, hcol⟩) := by
    rw [Layout.block_apply]
    refine congrArg (refOut X W) (funext fun a => Fin.ext ?_)
    match a with
    | ⟨0, _⟩ => rfl
    | ⟨1, _⟩ => exact congrArg (· + s.val) (Nat.mul_comm e.val 2048)
  refine Eq.trans ?_ hb.symm
  rw [refOut_apply]
  refine (tileVal_apply m _ _ _ _).trans (congrArg (fun z => max z 0) (Finset.sum_congr rfl fun k _ => ?_))
  have hxk : xAt m ⟨r.val / 1024 % 4, Nat.mod_lt _ (by decide)⟩ (ix2 ⟨r.val % 1024, Nat.mod_lt _ (by decide)⟩ k) = X (ix2 r k) := by
    rw [hx, Layout.block_apply]
    refine congrArg X (funext fun a => Fin.ext ?_)
    match a with
    | ⟨0, _⟩ =>
      show r.val / 1024 % 4 * 1024 + r.val % 1024 = r.val
      omega
    | ⟨1, _⟩ => rfl
  have hwk : wAt m ⟨r.val / 1024 % 4, Nat.mod_lt _ (by decide)⟩
      (ix2 k ⟨(512 * (4 * e.val + s.val / 512) + s.val % 512) % 8192, Nat.mod_lt _ (by decide)⟩)
        = W (ix2 k ⟨2048 * e.val + s.val, hcol⟩) := by
    rw [hw]
    refine congrArg W (funext fun a => Fin.ext ?_)
    match a with
    | ⟨0, _⟩ => rfl
    | ⟨1, _⟩ =>
      show (512 * (4 * e.val + s.val / 512) + s.val % 512) % 8192 = 2048 * e.val + s.val
      omega
  exact congrArg₂ (· * ·) hxk hwk

end Cert.Proof.Value

end
-- ==== Proof.lean ====
/-
# The claims

The run of the kernel (Proof/Kernel/, Proof/KernelIdeal/: the same text over the two printed copies), the value equation
(Proof/Value.lean) and the run of the reference, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Value
public import Idealize.ShloMosaic.Adequacy
public import Idealize.ShloMosaic.Init

@[expose] public section

noncomputable section

namespace Cert.Proof

open Idealize.ShloMosaic Idealize.SL.Sem

/-- The kernel ends with its arguments as they were and every counter at zero. -/
theorem frame_kernel : Cert.quiescent_Kernel := fun m g _ =>
  (θ_run Cert.Kernel.defs _ _).mono (fun _ h => ⟨fun c => ⟨(h.1 c).1, (h.1 c).2.1⟩, h.2⟩) (Cert.Kernel.Talk.run_main (F := Bits) m g)

/-- So does its idealization, -/
theorem frame_ideal : Cert.quiescent_KernelIdeal := fun m g _ =>
  (θ_run Cert.KernelIdeal.defs _ _).mono (fun _ h => ⟨fun c => ⟨(h.1 c).1, (h.1 c).2.1⟩, h.2⟩)
    (Cert.KernelIdeal.Talk.run_main (F := Ideal) m g)

/-- and the reference, which declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result ends as its block of columns of the reference's result. -/
theorem value : Cert.algebraic_KernelIdeal_ReferenceIdeal := by
  intro m g m' g' _ hagree
  refine ⟨Value.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.Talk.run_main (F := Ideal) m g)
    exact Value.outFinal_eq m _ _ (fun d => (hagree d).1) (fun d => (hagree d).2) c
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, value⟩

end Cert.Proof

end
